-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_row_max_finite [hPre_row_max_finite : Cert.Pre_row_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_row_max_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_row_max_finite [hPre_row_max_finite : Cert.Pre_row_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_row_max_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_row_max_finite [hKernelIdeal : Cert.KernelIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_row_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_row_max_finite [hReferenceIdeal : Cert.ReferenceIdeal.Facts] [hPre_row_max_finite : Cert.Pre_row_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_row_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_row_max_finite [hKernelIdeal : Cert.KernelIdeal.Facts] [hReferenceIdeal : Cert.ReferenceIdeal.Facts] [hPre_row_max_finite : Cert.Pre_row_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_row_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_row_max_finite : Cert.Pre_row_max_finite.Facts),
    quiescent_Kernel (hKernel := hKernel)
    ∧ quiescent_KernelIdeal (hKernelIdeal := hKernelIdeal)
    ∧ quiescent_KernelIdeal_pre_row_max_finite (hKernelIdeal := hKernelIdeal) (hPre_row_max_finite := hPre_row_max_finite)
    ∧ quiescent_ReferenceIdeal (hReferenceIdeal := hReferenceIdeal)
    ∧ quiescent_ReferenceIdeal_pre_row_max_finite (hReferenceIdeal := hReferenceIdeal) (hPre_row_max_finite := hPre_row_max_finite)
    ∧ preserves_Kernel_KernelIdeal
    ∧ algebraic_KernelIdeal_ReferenceIdeal_pre_row_max_finite (hKernelIdeal := hKernelIdeal) (hReferenceIdeal := hReferenceIdeal) (hPre_row_max_finite := hPre_row_max_finite)
-- ==== Pre_row_max_finite.lean ====
abbrev S1x2048x2048 : Shape := ⟨3, ![1, 2048, 2048]⟩
abbrev S2048x8 : Shape := ⟨2, ![2048, 8]⟩
abbrev S8x2048x4096 : Shape := ⟨3, ![8, 2048, 4096]⟩
abbrev S8x4096x2048 : Shape := ⟨3, ![8, 4096, 2048]⟩
abbrev S4x512x2048 : Shape := ⟨3, ![4, 512, 2048]⟩
abbrev S4x512x8 : Shape := ⟨3, ![4, 512, 8]⟩
abbrev S_ : Shape := ⟨0, ![]⟩
abbrev S4x512 : Shape := ⟨2, ![4, 512]⟩

class Facts : Prop where
  shapeCasts_S1x2048x2048_S4x512x2048 : S1x2048x2048.ShapeCasts S4x512x2048
  reducesTo_S4x512x8_S4x512_d2 : S4x512x8.ReducesTo [2] S4x512
  h_S_ : 0 < S_.numel
  bcast_S_S4x512 : S_.BroadcastsInDim S4x512 (![] : Fin 0 → Fin S4x512.rank)
  dot_S4x512x2048_S2048x8_S4x512x8_2_0_01_1_n_n_wf : DotDims.WF S4x512x2048 S2048x8 S4x512x8 [2] [0] [0, 1] [1] [] []

variable [Facts]

def dot_S4x512x2048_S2048x8_S4x512x8_2_0_01_1_n_n : DotDims S4x512x2048 S2048x8 S4x512x8 where
  lhsContracting := [2]
  rhsContracting := [0]
  lhsNonContracting := [0, 1]
  rhsNonContracting := [1]
  lhsBatch := []
  rhsBatch := []
  wf := dot_S4x512x2048_S2048x8_S4x512x8_2_0_01_1_n_n_wf
def fn {F : FTy → Type} [FloatOps F] (main_arg0 : FVec F S1x2048x2048 .f32) (main_arg1 : FVec F S2048x8 .f32) (main_arg2 : FVec F S8x2048x4096 .f32) (main_arg3 : FVec F S8x2048x4096 .f32) (main_arg4 : FVec F S8x4096x2048 .f32) : IVec S4x512 1 :=
  let main_v0 : FVec F S4x512x2048 .f32 := shapeCast S4x512x2048 main_arg0 shapeCasts_S1x2048x2048_S4x512x2048
  let main_v1 : FVec F S4x512x8 .f32 := (fun l r => Host.dotGeneral dot_S4x512x2048_S2048x8_S4x512x8_2_0_01_1_n_n none l r) main_v0 main_arg1
  let main_cst : FVec F S_ .f32 := constant S_ .f32 0xFF800000#32
  let main_v2 : FVec F S4x512 .f32 := (fun x v => Host.reduce FloatOps.maximumf x v reducesTo_S4x512x8_S4x512_d2 h_S_) main_v1 main_cst
  let main_v3 : FVec F S4x512 .f32 := Host.absf main_v2
  let main_cst_0 : FVec F S_ .f32 := constant S_ .f32 0x7F800000#32
  let main_v4 : FVec F S4x512 .f32 := broadcastInDim S4x512 ![] bcast_S_S4x512 main_cst_0
  let main_v5 : IVec S4x512 1 := cmpf .olt main_v3 main_v4
  main_v5
-- ==== Kernel.lean ====
abbrev S1x2048x2048 : Shape := ⟨3, ![1, 2048, 2048]⟩
abbrev S2048x8 : Shape := ⟨2, ![2048, 8]⟩
abbrev S8x2048x4096 : Shape := ⟨3, ![8, 2048, 4096]⟩
abbrev S8x4096x2048 : Shape := ⟨3, ![8, 4096, 2048]⟩
abbrev S4x512x2048 : Shape := ⟨3, ![4, 512, 2048]⟩
abbrev S8x640x2048 : Shape := ⟨3, ![8, 640, 2048]⟩
abbrev S4x512x1280 : Shape := ⟨3, ![4, 512, 1280]⟩
abbrev S4x8x160x2048 : Shape := ⟨4, ![4, 8, 160, 2048]⟩
abbrev S1x512x2048 : Shape := ⟨3, ![1, 512, 2048]⟩
abbrev S8x160x2048 : Shape := ⟨3, ![8, 160, 2048]⟩
abbrev S1x512x1280 : Shape := ⟨3, ![1, 512, 1280]⟩
abbrev S512x2048 : Shape := ⟨2, ![512, 2048]⟩
abbrev S512x8 : Shape := ⟨2, ![512, 8]⟩
abbrev S512 : Shape := ⟨1, ![512]⟩
abbrev S512x1 : Shape := ⟨2, ![512, 1]⟩
abbrev S512x512 : Shape := ⟨2, ![512, 512]⟩
abbrev S1x8 : Shape := ⟨2, ![1, 8]⟩
abbrev S512x160 : Shape := ⟨2, ![512, 160]⟩
abbrev S160x2048 : Shape := ⟨2, ![160, 2048]⟩
abbrev S1x160x2048 : Shape := ⟨3, ![1, 160, 2048]⟩
abbrev S512x1280 : Shape := ⟨2, ![512, 1280]⟩
abbrev S1x640x2048 : Shape := ⟨3, ![1, 640, 2048]⟩
abbrev S1x2048x512 : Shape := ⟨3, ![1, 2048, 512]⟩
abbrev S4x1x160x2048 : Shape := ⟨4, ![4, 1, 160, 2048]⟩
abbrev S640x2048 : Shape := ⟨2, ![640, 2048]⟩
abbrev S2048x512 : Shape := ⟨2, ![2048, 512]⟩
abbrev S640x512 : Shape := ⟨2, ![640, 512]⟩
abbrev S1x8x160x2048 : Shape := ⟨4, ![1, 8, 160, 2048]⟩
abbrev S1280x2048 : Shape := ⟨2, ![1280, 2048]⟩

abbrev nBuf : Space → Nat
  | .hbm => 11
  | .vmem => 24
  | .smem => 0
  | _ => 0

abbrev bufTy : (tb : Table) → Fin (tcTables nBuf tb) → BufTy
  | .hbm, ⟨0, _⟩ => ⟨S1x2048x2048, .f32⟩
  | .hbm, ⟨1, _⟩ => ⟨S2048x8, .f32⟩
  | .hbm, ⟨2, _⟩ => ⟨S8x2048x4096, .f32⟩
  | .hbm, ⟨3, _⟩ => ⟨S8x2048x4096, .f32⟩
  | .hbm, ⟨4, _⟩ => ⟨S8x4096x2048, .f32⟩
  | .hbm, ⟨5, _⟩ => ⟨S4x512x2048, .f32⟩
  | .hbm, ⟨6, _⟩ => ⟨S8x640x2048, .bf16⟩
  | .hbm, ⟨7, _⟩ => ⟨S4x512x1280, .bf16⟩
  | .hbm, ⟨8, _⟩ => ⟨S4x8x160x2048, .bf16⟩
  | .hbm, ⟨9, _⟩ => ⟨S4x512x2048, .f32⟩
  | .hbm, ⟨10, _⟩ => ⟨S1x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x8, .f32⟩
  | .local _ .vmem, ⟨3, _⟩ => ⟨S8x160x2048, .bf16⟩
  | .local _ .vmem, ⟨4, _⟩ => ⟨S8x160x2048, .bf16⟩
  | .local _ .vmem, ⟨5, _⟩ => ⟨S1x512x1280, .bf16⟩
  | .local _ .vmem, ⟨6, _⟩ => ⟨S1x512x1280, .bf16⟩
  | .local _ .vmem, ⟨7, _⟩ => ⟨S1x640x2048, .bf16⟩
  | .local _ .vmem, ⟨8, _⟩ => ⟨S1x640x2048, .bf16⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S1x2048x512, .f32⟩
  | .local _ .vmem, ⟨13, _⟩ => ⟨S1x512x2048, .f32⟩
  | .local _ .vmem, ⟨14, _⟩ => ⟨S1x512x2048, .f32⟩
  | .local _ .vmem, ⟨15, _⟩ => ⟨S4x1x160x2048, .bf16⟩
  | .local _ .vmem, ⟨16, _⟩ => ⟨S4x1x160x2048, .bf16⟩
  | .local _ .vmem, ⟨17, _⟩ => ⟨S640x2048, .f32⟩
  | .local _ .vmem, ⟨18, _⟩ => ⟨S1x512x1280, .bf16⟩
  | .local _ .vmem, ⟨19, _⟩ => ⟨S1x512x1280, .bf16⟩
  | .local _ .vmem, ⟨20, _⟩ => ⟨S1x8x160x2048, .bf16⟩
  | .local _ .vmem, ⟨21, _⟩ => ⟨S1x8x160x2048, .bf16⟩
  | .local _ .vmem, ⟨22, _⟩ => ⟨S1x512x2048, .f32⟩
  | .local _ .vmem, ⟨23, _⟩ => ⟨S1x512x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1_0 : Ref sig .tc := ⟨.hbm, 6, rfl⟩
abbrev main_call0_v1_1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x160x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond3 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_16 : BitVec 32 := 0#32
  let v22 : BitVec 1 := Scalar.cmpi .ne v21 c0_i32_16
  v22

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 2 → Memref sig .tc .vmem S1x640x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x1x160x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x1280 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x8x160x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S1x2048x2048 : Shape := ⟨3, ![1, 2048, 2048]⟩
abbrev S2048x8 : Shape := ⟨2, ![2048, 8]⟩
abbrev S8x2048x4096 : Shape := ⟨3, ![8, 2048, 4096]⟩
abbrev S8x4096x2048 : Shape := ⟨3, ![8, 4096, 2048]⟩
abbrev S4x512x2048 : Shape := ⟨3, ![4, 512, 2048]⟩
abbrev S4x512x8 : Shape := ⟨3, ![4, 512, 8]⟩
abbrev S_ : Shape := ⟨0, ![]⟩
abbrev S4x512 : Shape := ⟨2, ![4, 512]⟩
abbrev S4x512x1 : Shape := ⟨3, ![4, 512, 1]⟩
abbrev S4x512x2 : Shape := ⟨3, ![4, 512, 2]⟩
abbrev S4x512x2x1 : Shape := ⟨4, ![4, 512, 2, 1]⟩
abbrev S1x1x1x8 : Shape := ⟨4, ![1, 1, 1, 8]⟩
abbrev S4x512x2x8 : Shape := ⟨4, ![4, 512, 2, 8]⟩
abbrev S4x2x512x8 : Shape := ⟨4, ![4, 2, 512, 8]⟩
abbrev S4x1024x8 : Shape := ⟨3, ![4, 1024, 8]⟩
abbrev S4x1024x8x1 : Shape := ⟨4, ![4, 1024, 8, 1]⟩
abbrev S1x1x1x160 : Shape := ⟨4, ![1, 1, 1, 160]⟩
abbrev S4x1024x8x160 : Shape := ⟨4, ![4, 1024, 8, 160]⟩
abbrev S4x2x512x8x160 : Shape := ⟨5, ![4, 2, 512, 8, 160]⟩
abbrev S4x512x8x160 : Shape := ⟨4, ![4, 512, 8, 160]⟩
abbrev S4x2x512 : Shape := ⟨3, ![4, 2, 512]⟩
abbrev S4x2x512x1x1 : Shape := ⟨5, ![4, 2, 512, 1, 1]⟩
abbrev S4x8x160x2048 : Shape := ⟨4, ![4, 8, 160, 2048]⟩
abbrev S8x4096x4x160 : Shape := ⟨4, ![8, 4096, 4, 160]⟩
abbrev S4x8x160x4096 : Shape := ⟨4, ![4, 8, 160, 4096]⟩
abbrev S8x2048x4x160 : Shape := ⟨4, ![8, 2048, 4, 160]⟩

abbrev nBuf : Space → Nat
  | .hbm => 80
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x8, .f32⟩
  | .hbm, ⟨2, _⟩ => ⟨S8x2048x4096, .f32⟩
  | .hbm, ⟨3, _⟩ => ⟨S8x2048x4096, .f32⟩
  | .hbm, ⟨4, _⟩ => ⟨S8x4096x2048, .f32⟩
  | .hbm, ⟨5, _⟩ => ⟨S4x512x2048, .f32⟩
  | .hbm, ⟨6, _⟩ => ⟨S4x512x8, .f32⟩
  | .hbm, ⟨7, _⟩ => ⟨S_, .f32⟩
  | .hbm, ⟨8, _⟩ => ⟨S4x512, .f32⟩
  | .hbm, ⟨9, _⟩ => ⟨S_, .f32⟩
  | .hbm, ⟨10, _⟩ => ⟨S4x512, .f32⟩
  | .hbm, ⟨11, _⟩ => ⟨S4x512, .f32⟩
  | .hbm, ⟨12, _⟩ => ⟨S4x512x1, .f32⟩
  | .hbm, ⟨13, _⟩ => ⟨S4x512x8, .f32⟩
  | .hbm, ⟨14, _⟩ => ⟨S4x512x8, .f32⟩
  | .hbm, ⟨15, _⟩ => ⟨S4x512x8, .f32⟩
  | .hbm, ⟨16, _⟩ => ⟨S_, .f32⟩
  | .hbm, ⟨17, _⟩ => ⟨S4x512, .f32⟩
  | .hbm, ⟨18, _⟩ => ⟨S4x512x1, .f32⟩
  | .hbm, ⟨19, _⟩ => ⟨S4x512x8, .f32⟩
  | .hbm, ⟨20, _⟩ => ⟨S4x512x8, .f32⟩
  | .hbm, ⟨21, _⟩ => ⟨S4x512x2, .f32⟩
  | .hbm, ⟨22, _⟩ => ⟨S4x512x2, .i32⟩
  | .hbm, ⟨23, _⟩ => ⟨S4x512x2x1, .i32⟩
  | .hbm, ⟨24, _⟩ => ⟨S1x1x1x8, .i32⟩
  | .hbm, ⟨25, _⟩ => ⟨S4x512x2x8, .i32⟩
  | .hbm, ⟨26, _⟩ => ⟨S4x512x2x8, .i32⟩
  | .hbm, ⟨27, _⟩ => ⟨S4x512x2x8, .i1⟩
  | .hbm, ⟨28, _⟩ => ⟨S4x512x2x8, .f32⟩
  | .hbm, ⟨29, _⟩ => ⟨S4x2x512x8, .f32⟩
  | .hbm, ⟨30, _⟩ => ⟨S4x1024x8, .f32⟩
  | .hbm, ⟨31, _⟩ => ⟨S_, .f32⟩
  | .hbm, ⟨32, _⟩ => ⟨S_, .f32⟩
  | .hbm, ⟨33, _⟩ => ⟨S4x1024x8, .f32⟩
  | .hbm, ⟨34, _⟩ => ⟨S_, .f32⟩
  | .hbm, ⟨35, _⟩ => ⟨S4x1024x8, .f32⟩
  | .hbm, ⟨36, _⟩ => ⟨S4x1024x8, .f32⟩
  | .hbm, ⟨37, _⟩ => ⟨S_, .f32⟩
  | .hbm, ⟨38, _⟩ => ⟨S4x1024x8, .f32⟩
  | .hbm, ⟨39, _⟩ => ⟨S4x1024x8, .i1⟩
  | .hbm, ⟨40, _⟩ => ⟨S4x1024x8, .f32⟩
  | .hbm, ⟨41, _⟩ => ⟨S4x1024x8, .f32⟩
  | .hbm, ⟨42, _⟩ => ⟨S4x1024x8, .i32⟩
  | .hbm, ⟨43, _⟩ => ⟨S4x1024x8x1, .i32⟩
  | .hbm, ⟨44, _⟩ => ⟨S1x1x1x160, .i32⟩
  | .hbm, ⟨45, _⟩ => ⟨S4x1024x8x160, .i32⟩
  | .hbm, ⟨46, _⟩ => ⟨S4x1024x8x160, .i32⟩
  | .hbm, ⟨47, _⟩ => ⟨S4x1024x8x160, .i1⟩
  | .hbm, ⟨48, _⟩ => ⟨S4x1024x8x160, .f32⟩
  | .hbm, ⟨49, _⟩ => ⟨S4x1024x8x1, .f32⟩
  | .hbm, ⟨50, _⟩ => ⟨S4x1024x8x160, .f32⟩
  | .hbm, ⟨51, _⟩ => ⟨S4x1024x8x160, .f32⟩
  | .hbm, ⟨52, _⟩ => ⟨S4x2x512x8x160, .f32⟩
  | .hbm, ⟨53, _⟩ => ⟨S_, .f32⟩
  | .hbm, ⟨54, _⟩ => ⟨S4x512x8x160, .f32⟩
  | .hbm, ⟨55, _⟩ => ⟨S4x2x512, .f32⟩
  | .hbm, ⟨56, _⟩ => ⟨S4x2x512x1x1, .f32⟩
  | .hbm, ⟨57, _⟩ => ⟨S4x2x512x8x160, .f32⟩
  | .hbm, ⟨58, _⟩ => ⟨S4x2x512x8x160, .f32⟩
  | .hbm, ⟨59, _⟩ => ⟨S_, .f32⟩
  | .hbm, ⟨60, _⟩ => ⟨S4x512x8x160, .f32⟩
  | .hbm, ⟨61, _⟩ => ⟨S4x8x160x2048, .f32⟩
  | .hbm, ⟨62, _⟩ => ⟨S8x4096x4x160, .f32⟩
  | .hbm, ⟨63, _⟩ => ⟨S4x8x160x4096, .f32⟩
  | .hbm, ⟨64, _⟩ => ⟨S8x4096x4x160, .f32⟩
  | .hbm, ⟨65, _⟩ => ⟨S4x8x160x4096, .f32⟩
  | .hbm, ⟨66, _⟩ => ⟨S4x8x160x4096, .f32⟩
  | .hbm, ⟨67, _⟩ => ⟨S4x8x160x4096, .f32⟩
  | .hbm, ⟨68, _⟩ => ⟨S_, .f32⟩
  | .hbm, ⟨69, _⟩ => ⟨S4x8x160x4096, .f32⟩
  | .hbm, ⟨70, _⟩ => ⟨S4x8x160x4096, .f32⟩
  | .hbm, ⟨71, _⟩ => ⟨S_, .f32⟩
  | .hbm, ⟨72, _⟩ => ⟨S4x8x160x4096, .f32⟩
  | .hbm, ⟨73, _⟩ => ⟨S4x8x160x4096, .f32⟩
  | .hbm, ⟨74, _⟩ => ⟨S4x8x160x4096, .f32⟩
  | .hbm, ⟨75, _⟩ => ⟨S4x8x160x4096, .f32⟩
  | .hbm, ⟨76, _⟩ => ⟨S8x2048x4x160, .f32⟩
  | .hbm, ⟨77, _⟩ => ⟨S4x8x160x2048, .f32⟩
  | .hbm, ⟨78, _⟩ => ⟨S4x512x2048, .f32⟩
  | .hbm, ⟨79, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_values : Ref sig .tc := ⟨.hbm, 21, rfl⟩
abbrev main_indices : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_call0_cst : Ref sig .tc := ⟨.hbm, 31, rfl⟩
abbrev main_call1_call0_v0 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call3_v0 : Ref sig .tc := ⟨.hbm, 66, rfl⟩
abbrev main_call3_v1 : Ref sig .tc := ⟨.hbm, 67, rfl⟩
abbrev main_call3_cst : Ref sig .tc := ⟨.hbm, 68, rfl⟩
abbrev main_call3_v2 : Ref sig .tc := ⟨.hbm, 69, rfl⟩
abbrev main_call3_v3 : Ref sig .tc := ⟨.hbm, 70, rfl⟩
abbrev main_call3_cst_0 : Ref sig .tc := ⟨.hbm, 71, rfl⟩
abbrev main_call3_v4 : Ref sig .tc := ⟨.hbm, 72, rfl⟩
abbrev main_call3_v5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩

abbrev nD : Nat := 1
abbrev τ : Topo := Topo.v7x

variable {F : FTy → Type} [FloatOps F]
-- ==== Proof.Router.lean ====
/- The routing call: what one run of its body leaves in its two output blocks, and the call's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x512x2048 := Rect.unit (s := S1x512x2048) ![0, 0, 0] S1x512x2048.size inb_S1x512x2048_S1x512x2048_0_0_0
abbrev r0_1 : Rect S2048x8 := Rect.unit (s := S2048x8) ![0, 0] S2048x8.size inb_S2048x8_S2048x8_0_0
abbrev r0_2 : Rect S8x160x2048 := Rect.unit (s := S8x160x2048) ![0, 0, 0] S1x160x2048.size inb_S8x160x2048_S1x160x2048_0_0_0
abbrev r0_3 : Rect S8x160x2048 := Rect.unit (s := S8x160x2048) ![1, 0, 0] S1x160x2048.size inb_S8x160x2048_S1x160x2048_1_0_0
abbrev r0_4 : Rect S8x160x2048 := Rect.unit (s := S8x160x2048) ![2, 0, 0] S1x160x2048.size inb_S8x160x2048_S1x160x2048_2_0_0
abbrev r0_5 : Rect S8x160x2048 := Rect.unit (s := S8x160x2048) ![3, 0, 0] S1x160x2048.size inb_S8x160x2048_S1x160x2048_3_0_0
abbrev r0_6 : Rect S8x160x2048 := Rect.unit (s := S8x160x2048) ![4, 0, 0] S1x160x2048.size inb_S8x160x2048_S1x160x2048_4_0_0
abbrev r0_7 : Rect S8x160x2048 := Rect.unit (s := S8x160x2048) ![5, 0, 0] S1x160x2048.size inb_S8x160x2048_S1x160x2048_5_0_0
abbrev r0_8 : Rect S8x160x2048 := Rect.unit (s := S8x160x2048) ![6, 0, 0] S1x160x2048.size inb_S8x160x2048_S1x160x2048_6_0_0
abbrev r0_9 : Rect S8x160x2048 := Rect.unit (s := S8x160x2048) ![7, 0, 0] S1x160x2048.size inb_S8x160x2048_S1x160x2048_7_0_0
abbrev r0_10 : Rect S1x512x1280 := Rect.unit (s := S1x512x1280) ![0, 0, 0] S1x512x1280.size inb_S1x512x1280_S1x512x1280_0_0_0

/-! ## What the body leaves in each output window's buffer -/

def k0_pay29 (x0 : Vec F S1x512x2048 .f32) (x1 : Vec F S2048x8 .f32) : IVec S512x512 32 :=
  iota .tc S512x512 32 [0] iota_S512x512_d0_w32 -- `v42`
def k0_pay30 (x0 : Vec F S1x512x2048 .f32) (x1 : Vec F S2048x8 .f32) : IVec S512x512 32 :=
  iota .tc S512x512 32 [1] iota_S512x512_d1_w32 -- `v43`
def k0_pay31 (x0 : Vec F S1x512x2048 .f32) (x1 : Vec F S2048x8 .f32) : FVec F S512x2048 .f32 :=
  k0_pay3 (View.ld x0 r0_0) -- `v1`
def k0_pay32 (x0 : Vec F S1x512x2048 .f32) (x1 : Vec F S2048x8 .f32) : IVec S512x1 32 :=
  k0_pay6 (View.ld x0 r0_0) (View.ld x1 r0_1) -- `v21`
def k0_pay33 (x0 : Vec F S1x512x2048 .f32) (x1 : Vec F S2048x8 .f32) : IVec S512x1 32 :=
  k0_pay9 (View.ld x0 r0_0) (View.ld x1 r0_1) -- `v33`
def k0_pay34 (x0 : Vec F S1x512x2048 .f32) (x1 : Vec F S2048x8 .f32) : FVec F S512x8 .f32 :=
  k0_pay10 (View.ld x0 r0_0) (View.ld x1 r0_1) -- `v37`
def k0_pay35 (x0 : Vec F S1x512x2048 .f32) (x1 : Vec F S2048x8 .f32) : FVec F S512x8 .f32 :=
  k0_pay11 (View.ld x0 r0_0) (View.ld x1 r0_1) -- `v41`
def k0_pay36 (x0 : Vec F S1x512x2048 .f32) (x1 : Vec F S2048x8 .f32) : IVec S512x160 32 :=
  iota .tc S512x160 32 [1] iota_S512x160_d1_w32 -- `v78`
def k0_pay37 (x0 : Vec F S1x512x2048 .f32) (x1 : Vec F S2048x8 .f32) : IVec S512x1 32 :=
  k0_pay14 (k0_pay32 x0 x1) (k0_pay34 x0 x1) (k0_pay29 x0 x1) (k0_pay30 x0 x1) -- `v70`
def k0_pay38 (x0 : Vec F S1x512x2048 .f32) (x1 : Vec F S2048x8 .f32) : IVec S512x1 32 :=
  k0_pay15 (k0_pay33 x0 x1) (k0_pay34 x0 x1) (k0_pay35 x0 x1) (k0_pay29 x0 x1) (k0_pay30 x0 x1) -- `v77`

def out0_2 (x0 : Vec F S1x512x2048 .f32) (x1 : Vec F S2048x8 .f32) : Vec F S8x160x2048 .bf16 :=
  View.canon [⟨r0_9, k0_pay1 (k0_pay28 (k0_pay31 x0 x1) (k0_pay37 x0 x1) (k0_pay38 x0 x1) (k0_pay36 x0 x1))⟩,
    ⟨r0_8, k0_pay27 (k0_pay31 x0 x1) (k0_pay37 x0 x1) (k0_pay38 x0 x1) (k0_pay36 x0 x1)⟩,
    ⟨r0_7, k0_pay26 (k0_pay31 x0 x1) (k0_pay38 x0 x1) (k0_pay24 (k0_pay37 x0 x1) (k0_pay36 x0 x1)) (k0_pay25 (k0_pay36 x0 x1))⟩,
    ⟨r0_6, k0_pay23 (k0_pay31 x0 x1) (k0_pay37 x0 x1) (k0_pay38 x0 x1) (k0_pay36 x0 x1)⟩,
    ⟨r0_5, k0_pay22 (k0_pay31 x0 x1) (k0_pay37 x0 x1) (k0_pay38 x0 x1) (k0_pay36 x0 x1)⟩,
    ⟨r0_4, k0_pay21 (k0_pay20 (k0_pay31 x0 x1) (k0_pay37 x0 x1) (k0_pay38 x0 x1) (k0_pay36 x0 x1))⟩,
    ⟨r0_3, k0_pay19 (k0_pay31 x0 x1) (k0_pay37 x0 x1) (k0_pay38 x0 x1) (k0_pay36 x0 x1)⟩,
    ⟨r0_2, k0_pay18 (k0_pay31 x0 x1) (k0_pay16 (k0_pay32 x0 x1) (k0_pay34 x0 x1) (k0_pay29 x0 x1) (k0_pay30 x0 x1)) (k0_pay17 (k0_pay33 x0 x1) (k0_pay34 x0 x1) (k0_pay35 x0 x1) (k0_pay29 x0 x1) (k0_pay30 x0 x1))⟩]

theorem cover0_2 (p0 : Vec F S1x160x2048 .bf16) (p1 : Vec F S1x160x2048 .bf16) (p2 : Vec F S1x160x2048 .bf16) (p3 : Vec F S1x160x2048 .bf16) (p4 : Vec F S1x160x2048 .bf16) (p5 : Vec F S1x160x2048 .bf16) (p6 : Vec F S1x160x2048 .bf16) (p7 : Vec F S1x160x2048 .bf16) (y : S8x160x2048.Idx) :
    ∃ pc ∈ ([⟨r0_9, p0⟩, ⟨r0_8, p1⟩, ⟨r0_7, p2⟩, ⟨r0_6, p3⟩, ⟨r0_5, p4⟩, ⟨r0_4, p5⟩, ⟨r0_3, p6⟩, ⟨r0_2, p7⟩] : List (View.Piece (Elt F) S8x160x2048 .bf16)), y ∈ pc.1.set :=
  View.cover_of_tiled [⟨r0_9, p0⟩, ⟨r0_8, p1⟩, ⟨r0_7, p2⟩, ⟨r0_6, p3⟩, ⟨r0_5, p4⟩, ⟨r0_4, p5⟩, ⟨r0_3, p6⟩, ⟨r0_2, p7⟩] S1x160x2048.size (by rfl) y

def out0_3 (x0 : Vec F S1x512x2048 .f32) (x1 : Vec F S2048x8 .f32) : Vec F S1x512x1280 .bf16 :=
  View.canon [⟨r0_10, k0_pay2 (k0_pay5 (View.ld x0 r0_0) (View.ld x1 r0_1)) (k0_pay8 (View.ld x0 r0_0) (View.ld x1 r0_1)) (k0_pay37 x0 x1) (k0_pay38 x0 x1)⟩]

theorem cover0_3 (p0 : Vec F S1x512x1280 .bf16) (y : S1x512x1280.Idx) :
    ∃ pc ∈ ([⟨r0_10, p0⟩] : List (View.Piece (Elt F) S1x512x1280 .bf16)), y ∈ pc.1.set :=
  View.cover_of_tiled [⟨r0_10, p0⟩] S1x512x1280.size (by rfl) y

/-! ## The body's triple -/

set_option maxHeartbeats 1000000 in
theorem sound_kernel0 (c : Dev nD) (E : Set ℕ) (i : grid0.Coords) (arg1 : Memref sig .tc .vmem S1x512x2048 .f32) (harg1 : arg1.IsWhole) (arg2 : Memref sig .tc .vmem S2048x8 .f32) (harg2 : arg2.IsWhole) (arg3 : Memref sig .tc .vmem S8x160x2048 .bf16) (harg3 : arg3.IsWhole) (arg4 : Memref sig .tc .vmem S1x512x1280 .bf16) (harg4 : arg4.IsWhole)
    (x0 : Vec F S1x512x2048 .f32) (x1 : Vec F S2048x8 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1)) -∗ K ⟨⟩))
      ⊢ wp frame (wpE (defs₀ (F := F)) Variants.none c none) E (cc0__router_body i arg1 harg1 arg2 harg2 arg3 harg3 arg4 harg4) K := by
  simp only [cc0__router_body_eq_skeleton]; unfold cc0__router_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _)).trans ?_
    rfl
  iexists _; isplitr
  swap; · iexact H3
  ipureintro
  refine (View.read_writes_eq_canon _ _ _ (cover0_3 _)).trans ?_
  rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.Ffn.lean ====
/- The feed-forward call: its three kinds of grid point, the accumulator it carries between them, and the call's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The conditions of the body's three branches, by the point -/

/-- The second grid coordinate is 0. -/
abbrev cond1_0 (i : grid1.Coords) : Prop := (Scalar.cmpi .ne (Scalar.extui (Scalar.cmpi .eq (BitVec.ofNat 32 (i 1).val) 0#32)) 0#32) = 1#1
/-- The second grid coordinate is positive. -/
abbrev cond1_1 (i : grid1.Coords) : Prop := (Scalar.cmpi .ne (Scalar.extui (Scalar.cmpi .sgt (BitVec.ofNat 32 (i 1).val) 0#32)) 0#32) = 1#1
/-- The second grid coordinate is the last. -/
abbrev cond1_2 (i : grid1.Coords) : Prop := k1_cond3 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ ¬ t.val % 8 = 0 :=
  (by decide +kernel : ∀ t : Fin grid1.N, cond1_1 (grid1.coords t) ↔ ¬ t.val % 8 = 0)
theorem hcond1_2 : ∀ t : Fin cfg1.N, cond1_2 (grid1.coords t) ↔ t.val % 8 = 7 :=
  (by decide +kernel : ∀ t : Fin grid1.N, cond1_2 (grid1.coords t) ↔ t.val % 8 = 7)

/-- Away from the last block of the hidden width the output window is idle and is not written back; at it, it is live. -/
theorem idle1_4 : ∀ t : Fin cfg1.N, ¬ t.val % 8 = 7 → cfg1.idle 4 (grid1.coords t) = true := by decide +kernel
theorem noFlush1_4 : ∀ t : Fin cfg1.N, ¬ t.val % 8 = 7 → (cfg1.win 4).flush t = false := by decide +kernel
theorem live1_4 : ∀ t : Fin cfg1.N, t.val % 8 = 7 → cfg1.idle 4 (grid1.coords t) = false := by decide +kernel

/-! ## The body's triples, case by case -/

set_option maxHeartbeats 1000000 in
/-- Where a run of eight points begins: the block product goes to the scratch buffer, the output window is left alone. -/
theorem sound_kernel1_A (c : Dev nD) (E : Set ℕ) (i : grid1.Coords) (arg2 : Memref sig .tc .vmem S1x640x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S4x1x160x2048 .bf16) (harg6 : arg6.IsWhole) (arg7 : Memref sig .tc .vmem S640x2048 .f32) (harg7 : arg7.IsWhole)
    (hc0 : cond1_0 i) (hc1 : ¬ cond1_1 i) (hc2 : ¬ cond1_2 i)
    (x0 : Vec F S1x640x2048 .bf16) (x1 : Vec F S1x2048x512 .f32) (x2 : Vec F S1x2048x512 .f32) (x3 : Vec F S1x512x2048 .f32) (d4 : Vec F S4x1x160x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare (k1_pay2 x0 x1 x2 x3)) -∗ K ⟨⟩))
      ⊢ wp frame (wpE (defs₀ (F := F)) Variants.none c none) E (cc1__ffn_body i arg2 harg2 arg3 harg3 arg4 harg4 arg5 harg5 arg6 harg6 arg7 harg7) K := by
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  refine (View.read_writes_full _ _ _ _ _).trans ?_
  rw [View.readAt_full arg2.view, View.readAt_full arg3.view, View.readAt_full arg4.view, View.readAt_full arg5.view, hf0, hf1, hf2, hf3]
set_option maxHeartbeats 1000000 in
/-- In the middle of a run: the block product is added to what the scratch buffer holds, the output window is left alone. -/
theorem sound_kernel1_B (c : Dev nD) (E : Set ℕ) (i : grid1.Coords) (arg2 : Memref sig .tc .vmem S1x640x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S4x1x160x2048 .bf16) (harg6 : arg6.IsWhole) (arg7 : Memref sig .tc .vmem S640x2048 .f32) (harg7 : arg7.IsWhole)
    (hc0 : ¬ cond1_0 i) (hc1 : cond1_1 i) (hc2 : ¬ cond1_2 i)
    (x0 : Vec F S1x640x2048 .bf16) (x1 : Vec F S1x2048x512 .f32) (x2 : Vec F S1x2048x512 .f32) (x3 : Vec F S1x512x2048 .f32) (d4 : Vec F S4x1x160x2048 .bf16) (xs : Vec F S640x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ owns (c : Thread nD τ) arg7 fullShare (k1_pay3 x0 x1 x2 x3 xs)) -∗ K ⟨⟩))
      ⊢ wp frame (wpE (defs₀ (F := F)) Variants.none c none) E (cc1__ffn_body i arg2 harg2 arg3 harg3 arg4 harg4 arg5 harg5 arg6 harg6 arg7 harg7) K := by
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hfs
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  refine (View.read_writes_full _ _ _ _ _).trans ?_
  rw [View.readAt_full arg2.view, View.readAt_full arg3.view, View.readAt_full arg4.view, View.readAt_full arg5.view, View.readAt_full arg7.view, hf0, hf1, hf2, hf3, hfs]
set_option maxHeartbeats 1000000 in
/-- At the last point of a run: the sum is completed and stored into the output window. -/
theorem sound_kernel1_C (c : Dev nD) (E : Set ℕ) (i : grid1.Coords) (arg2 : Memref sig .tc .vmem S1x640x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S4x1x160x2048 .bf16) (harg6 : arg6.IsWhole) (arg7 : Memref sig .tc .vmem S640x2048 .f32) (harg7 : arg7.IsWhole)
    (hc0 : ¬ cond1_0 i) (hc1 : cond1_1 i) (hc2 : cond1_2 i)
    (x0 : Vec F S1x640x2048 .bf16) (x1 : Vec F S1x2048x512 .f32) (x2 : Vec F S1x2048x512 .f32) (x3 : Vec F S1x512x2048 .f32) (xs : Vec F S640x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay4 (k1_pay3 x0 x1 x2 x3 xs)) ∗ owns (c : Thread nD τ) arg7 fullShare (k1_pay3 x0 x1 x2 x3 xs)) -∗ K ⟨⟩))
      ⊢ wp frame (wpE (defs₀ (F := F)) Variants.none c none) E (cc1__ffn_body i arg2 harg2 arg3 harg3 arg4 harg4 arg5 harg5 arg6 harg6 arg7 harg7) K := by
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3
  obtain rfl := harg7.eq_unread hfs
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full _ _ _ _ _).trans (congrArg k1_pay4 ?_)
    refine (View.readCov_full _ _ _ _ _).trans ?_
    rw [View.readAt_full arg2.view, View.readAt_full arg3.view, View.readAt_full arg4.view, View.readAt_full arg5.view, View.readAt_full arg7.view, hf0, hf1, hf2, hf3, hfs]
  iexists _; isplitr
  swap; · iexact HS
  ipureintro
  refine (View.read_writes_full _ _ _ _ _).trans ?_
  rw [View.readAt_full arg2.view, View.readAt_full arg3.view, View.readAt_full arg4.view, View.readAt_full arg5.view, View.readAt_full arg7.view, hf0, hf1, hf2, hf3, hfs]

/-! ## The accumulator, point by point -/

/-- What the scratch buffer holds after point `n`: the block's product where a run of eight points begins, the sum
    with what the point before left at the others. -/
def acc1 (c : Dev nD) : (n : ℕ) → n < cfg1.N → Vec F S640x2048 .f32
  | 0, h => k1_pay2 (iblk1 V c 0 ⟨0, h⟩) (iblk1 V c 1 ⟨0, h⟩) (iblk1 V c 2 ⟨0, h⟩) (iblk1 V c 3 ⟨0, h⟩)
  | n + 1, h => if (n + 1) % 8 = 0 then k1_pay2 (iblk1 V c 0 ⟨n + 1, h⟩) (iblk1 V c 1 ⟨n + 1, h⟩) (iblk1 V c 2 ⟨n + 1, h⟩) (iblk1 V c 3 ⟨n + 1, h⟩)
      else k1_pay3 (iblk1 V c 0 ⟨n + 1, h⟩) (iblk1 V c 1 ⟨n + 1, h⟩) (iblk1 V c 2 ⟨n + 1, h⟩) (iblk1 V c 3 ⟨n + 1, h⟩) (acc1 c n (Nat.lt_of_succ_lt h))

theorem acc1_first (c : Dev nD) (t : Fin cfg1.N) (h0 : t.val % 8 = 0) :
    acc1 V c t.val t.isLt = k1_pay2 (iblk1 V c 0 t) (iblk1 V c 1 t) (iblk1 V c 2 t) (iblk1 V c 3 t) := by
  obtain ⟨n, hn⟩ := t
  cases n with
  | zero => rfl
  | succ n => exact if_pos h0

theorem acc1_next (c : Dev nD) (t : Fin cfg1.N) (h0 : ¬ t.val % 8 = 0) :
    acc1 V c t.val t.isLt = k1_pay3 (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The invariant between points -/

/-- The scratch operand. -/
abbrev scM1 : Memref sig .tc .vmem S640x2048 .f32 := Memref.whole cc1_scratch0

/-- The scoped buffers that are neither this call's staging buffers nor its scratch, at anything. -/
abbrev others1 (c : Dev nD) : sProp 𝕄 :=
  Pipeline.scopedRestBut (Ix := Unit) (Name := ℕ) (U := UR sig nD τ) (Lvl := ℕ) (Val := Elt F) spec1 c [cc1_scratch0]

/-- What the launch hands the call: the other scoped buffers, the scratch at anything, the generator register. -/
theorem PhiA1_eq (c : Dev nD) :
    (Pipeline.ΦA spec1 c : sProp 𝕄)
      = iprop(((∃ d, owns (c : Thread nD τ) scM1 fullShare d) ∗ others1 c) ∗ (∃ r, prngReg c r)) := by
  unfold Pipeline.ΦA
  rw [Pipeline.scopedRest_split_of_list spec1 c [cc1_scratch0] (by decide) (by decide)]
  simp only [scM1, owns_whole]; try rfl

/-- Before position `n`: at the launch whatever the call is handed, afterwards the accumulator in the scratch buffer. -/
def PhiS (c : Dev nD) : (n : ℕ) → n ≤ cfg1.N → sProp 𝕄
  | 0, _ => Pipeline.ΦA spec1 c
  | n + 1, hn => iprop((owns (c : Thread nD τ) scM1 fullShare (acc1 V c n hn) ∗ others1 c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop((owns (c : Thread nD τ) scM1 fullShare (acc1 V c n hn) ∗ others1 c) ∗ (∃ r, prngReg c r)) := rfl
theorem PhiS_pos (c : Dev nD) (n : ℕ) (h : n ≤ cfg1.N) (hz : n ≠ 0) :
    PhiS V c n h = iprop((owns (c : Thread nD τ) scM1 fullShare (acc1 V c (n - 1) (by omega)) ∗ others1 c) ∗ (∃ r, prngReg c r)) := by
  cases n with
  | zero => exact absurd rfl hz
  | succ n => rfl

/-- At any position the invariant gives back what the launch handed over. -/
theorem PhiS_weaken (c : Dev nD) (n : ℕ) (h : n ≤ cfg1.N) : PhiS V c n h ⊢ Pipeline.ΦA spec1 c := by
  cases n with
  | zero => exact Idealize.SL.BI.Entails.refl _
  | succ n =>
    rw [PhiS_succ, PhiA1_eq]
    iintro ⟨⟨HS, Hr⟩, Hg⟩
    isplitl [HS Hr]
    · isplitl [HS]
      · iexists _; iexact HS
      iexact Hr
    iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (acc1 V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay4 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window is never idle, so the body leaves its block in it. -/
theorem leaves1 (c : Dev nD) (t : Fin cfg1.N) (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

set_option maxHeartbeats 4800000 in
/-- The body at any point, by the point's place in its run of eight. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiS V c (t.val + 1) t.isLt from rfl, PhiS_succ, PhiS_castSucc,
    leaves1 V c t 0 rfl, leaves1 V c t 1 rfl, leaves1 V c t 2 rfl, leaves1 V c t 3 rfl,
    after1_0, after1_1, after1_2, after1_3]
  by_cases h0 : t.val % 8 = 0
  · have h7 : ¬ t.val % 8 = 7 := by omega
    rw [Dat.leavesExact_idle (dat1 V c) 4 t (idle1_4 t h7) (noFlush1_4 t h7), acc1_first V c t h0]
    refine (sep_mono (PhiS_weaken V c _ _) .rfl).trans ?_
    rw [PhiA1_eq]
    iintro ⟨⟨⟨HS, Hr⟩, Hg⟩, Ho, ⟨%d0, H0⟩, ⟨%d1, H1⟩, ⟨%d2, H2⟩, ⟨%d3, H3⟩, ⟨%d4, H4⟩⟩
    iapply (sound_kernel1_A c Set.univ (grid1.coords t) _ _ _ _ _ _ _ _ _ _ _ _ ((hcond1_0 t).mpr h0) (fun h => (hcond1_1 t).mp h h0) (fun h => h7 ((hcond1_2 t).mp h)) (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    rw [PhiS_pos V c _ _ hz]
    by_cases h7 : t.val % 8 = 7
    · rw [leaves1 V c t 4 (live1_4 t h7), after1_4, acc1_next V c t h0]
      iintro ⟨⟨⟨HS, Hr⟩, Hg⟩, Ho, ⟨%d0, H0⟩, ⟨%d1, H1⟩, ⟨%d2, H2⟩, ⟨%d3, H3⟩, ⟨%d4, H4⟩⟩
      iapply (sound_kernel1_C c Set.univ (grid1.coords t) _ _ _ _ _ _ _ _ _ _ _ _ (fun h => h0 ((hcond1_0 t).mp h)) ((hcond1_1 t).mpr h0) ((hcond1_2 t).mpr h7) (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idle1_4 t h7) (noFlush1_4 t h7), acc1_next V c t h0]
      iintro ⟨⟨⟨HS, Hr⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ (fun h => h0 ((hcond1_0 t).mp h)) ((hcond1_1 t).mpr h0) (fun h => h7 ((hcond1_2 t).mp h)) (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Combine.lean ====
/- The combining call: what one run of its body leaves in its output block, and the call's proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the call is entered
variable (V : (c : Dev nD) → (b : Ref sig .tc) → Buf (Elt F) ((c : Thread nD τ).loc b))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x8x160x2048 := Rect.unit (s := S1x8x160x2048) ![0, 0, 0, 0] S1x8x160x2048.size inb_S1x8x160x2048_S1x8x160x2048_0_0_0_0
abbrev r2_1 : Rect S1x512x1280 := Rect.unit (s := S1x512x1280) ![0, 0, 0] S1x512x1280.size inb_S1x512x1280_S1x512x1280_0_0_0
abbrev r2_2 : Rect S1x512x2048 := Rect.unit (s := S1x512x2048) ![0, 0, 0] S1x512x2048.size inb_S1x512x2048_S1x512x2048_0_0_0

/-! ## What the body leaves in each output window's buffer -/

def out2_2 (x0 : Vec F S1x512x1280 .bf16) (x1 : Vec F S1x8x160x2048 .bf16) : Vec F S1x512x2048 .f32 :=
  View.canon [⟨r2_2, k2_pay1 (View.ld x1 r2_0) (View.ld x0 r2_1)⟩]

theorem cover2_2 (p0 : Vec F S1x512x2048 .f32) (y : S1x512x2048.Idx) :
    ∃ pc ∈ ([⟨r2_2, p0⟩] : List (View.Piece (Elt F) S1x512x2048 .f32)), y ∈ pc.1.set :=
  View.cover_of_tiled [⟨r2_2, p0⟩] S1x512x2048.size (by rfl) y

/-! ## The body's triple -/

set_option maxHeartbeats 1000000 in
theorem sound_kernel2 (c : Dev nD) (E : Set ℕ) (i : grid2.Coords) (arg1 : Memref sig .tc .vmem S1x512x1280 .bf16) (harg1 : arg1.IsWhole) (arg2 : Memref sig .tc .vmem S1x8x160x2048 .bf16) (harg2 : arg2.IsWhole) (arg3 : Memref sig .tc .vmem S1x512x2048 .f32) (harg3 : arg3.IsWhole)
    (x0 : Vec F S1x512x1280 .bf16) (x1 : Vec F S1x8x160x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__combine_body i arg1 harg1 arg2 harg2 arg3 harg3) K := by
  simp only [cc2__combine_body_eq_skeleton]; unfold cc2__combine_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand

end
-- ==== Proof.Run.lean ====
/- The whole run: the buffers' contents between the three calls, each call as a segment of @main, and what the launch ends in. -/
module

public import proofs.«01_k».proof.Proof.Router
public import proofs.«01_k».proof.Proof.Ffn
public import proofs.«01_k».proof.Proof.Combine
public import proofs.«01_k».proof.Proof.Gen.KernelIdeal.Regions
public import Idealize.ShloMosaic.Lib.Pipeline.RegionsLoop
public import Idealize.ShloMosaic.Lib.Pipeline.FrameSuffix

@[expose] public section

set_option maxRecDepth 16384

noncomputable section

namespace Cert.KernelIdeal.Hand

open Cert.KernelIdeal.Gen hiding V1 V2 V3 V4 V5 V1_of V2_of V3_of V4_of V5_of segs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a call leaves in the buffers -/

/-- The buffers' contents read at the TensorCore's references. -/
abbrev readTc (W : Dev nD → Valuation τ sig (Elt F)) : (c : Dev nD) → (b : Ref sig .tc) → Buf (Elt F) ((c : Thread nD τ).loc b) :=
  fun c b => W c b

/-- After call `p` with proof data `D`: its arrays at what the write-backs leave, the other buffers as they were. -/
def leave (p : Fin 3) (D : (c : Dev nD) → Dat τ (Elt F) Unit ℕ (UR sig nD τ) ℕ (cfgs p) c) (W : Dev nD → Valuation τ sig (Elt F))
    (c : Dev nD) : Valuation τ sig (Elt F) :=
  Pipeline.withArrays (cfgs p).spec c (W c) fun w => (D c).arrAt w (cfgs p).N

section Leave

variable (p : Fin 3) (launch : Pipeline.LaunchFacts (nD := nD) (τ := τ) cfgs p)
  (D : (c : Dev nD) → Dat τ (Elt F) Unit ℕ (UR sig nD τ) ℕ (cfgs p) c) (W : Dev nD → Valuation τ sig (Elt F))
include launch

theorem leave_arr (c : Dev nD) (w : Fin (cfgs p).W) :
    leave p D W c (Proc.devRef .tc (Pipeline.arrRef (cfgs p).spec w)) = (D c).arrAt w (cfgs p).N := by
  unfold leave; exact Pipeline.withArrays_arr (cfgs p).spec launch.win.arr_inj c _ _ w

omit launch in
theorem leave_of_ne (c : Dev nD) (b : Ref sig .tc) (hb : ∀ w, Pipeline.arrRef (cfgs p).spec w ≠ b) :
    leave p D W c (Proc.devRef .tc b) = W c (Proc.devRef .tc b) := by
  unfold leave; exact Pipeline.withArrays_of_ne (cfgs p).spec c _ _ b hb

/-- A buffer that is no output array of the call keeps its contents. -/
theorem leave_of (hA : ∀ c w, (D c).A w = readTc W c (Pipeline.arrRef (cfgs p).spec w)) (c : Dev nD) (r : Ref sig .tc)
    (h : ∀ w : Fin (cfgs p).W, Pipeline.arrRef (cfgs p).spec w = r → ((cfgs p).win w).isOut = false) :
    leave p D W c (Proc.devRef .tc r) = W c (Proc.devRef .tc r) := by
  by_cases hw : ∃ w : Fin (cfgs p).W, Pipeline.arrRef (cfgs p).spec w = r
  · obtain ⟨w, rfl⟩ := hw
    exact (leave_arr p launch D W c w).trans (((D c).arrAt_in w (h w rfl) _).trans (hA c w))
  · exact leave_of_ne p D W c r fun w e => hw ⟨w, e⟩

end Leave

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => m ((c : Dev nD), b)
/-- After the input is regrouped: what the routing call finds. -/
abbrev W1 : Dev nD → Valuation τ sig (Elt F) := fun c => StableHlo.after hostOps0 (W0 m c)
/-- After the routing call. -/
def W2 : Dev nD → Valuation τ sig (Elt F) := leave 0 (fun c => dat0 (readTc (W1 m)) c) (W1 m)
/-- After the feed-forward call. -/
def W3 : Dev nD → Valuation τ sig (Elt F) := leave 1 (fun c => dat1 (readTc (W2 m)) c) (W2 m)
/-- After the combining call. -/
def W4 : Dev nD → Valuation τ sig (Elt F) := leave 2 (fun c => dat2 (readTc (W3 m)) c) (W3 m)
/-- At the return. -/
abbrev W5 : Dev nD → Valuation τ sig (Elt F) := fun c => StableHlo.after hostOps3 (W4 m c)

/-- @main's arguments. -/
abbrev argRefs : List (Ref sig .tc) := [main_arg0, main_arg1, main_arg2, main_arg3, main_arg4]

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : ∀ w : Fin cfg0.W, Pipeline.arrRef spec0 w = r → (cfg0.win w).isOut = false) :
    W2 m c (Proc.devRef .tc r) = W1 m c (Proc.devRef .tc r) :=
  leave_of 0 launch0 _ _ (fun c w => A_eq0 (readTc (W1 m)) c w) c r h
theorem W3_of (c : Dev nD) (r : Ref sig .tc) (h : ∀ w : Fin cfg1.W, Pipeline.arrRef spec1 w = r → (cfg1.win w).isOut = false) :
    W3 m c (Proc.devRef .tc r) = W2 m c (Proc.devRef .tc r) :=
  leave_of 1 launch1 _ _ (fun c w => A_eq1 (readTc (W2 m)) c w) c r h
theorem W4_of (c : Dev nD) (r : Ref sig .tc) (h : ∀ w : Fin cfg2.W, Pipeline.arrRef spec2 w = r → (cfg2.win w).isOut = false) :
    W4 m c (Proc.devRef .tc r) = W3 m c (Proc.devRef .tc r) :=
  leave_of 2 launch2 _ _ (fun c w => A_eq2 (readTc (W3 m)) c w) c r h
theorem W5_of (c : Dev nD) (r : Ref sig .tc) (h : r ∉ hostOps3_W) : W5 m c (Proc.devRef .tc r) = W4 m c (Proc.devRef .tc r) :=
  StableHlo.after_of_writes_sub hostOps3 _ hostOps3_writes h

theorem args0 : ∀ a ∈ argRefs, a ∉ hostOps0_W := ListAll.forall_mem_of_all_decide (by decide +kernel)
theorem args3 : ∀ a ∈ argRefs, a ∉ hostOps3_W := ListAll.forall_mem_of_all_decide (by decide +kernel)
theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)

/-- An argument holds its launch contents when the feed-forward call is entered. -/
theorem W2_args (c : Dev nD) (a : Ref sig .tc) (ha : a ∈ argRefs) : W2 m c (Proc.devRef .tc a) = m ((c : Thread nD τ).loc a) :=
  (W2_of m c a (argsIn0 a ha)).trans (W1_of m c a (args0 a ha))

/-- An argument holds its launch contents at the return. -/
theorem W5_args (c : Dev nD) (a : Ref sig .tc) (ha : a ∈ argRefs) : W5 m c (Proc.devRef .tc a) = m ((c : Thread nD τ).loc a) :=
  (W5_of m c a (args3 a ha)).trans <| (W4_of m c a (argsIn2 a ha)).trans <| (W3_of m c a (argsIn1 a ha)).trans (W2_args m c a ha)

/-! ## The calls as segments -/

/-- Each call's proof data, at the contents it finds. -/
def pdats : (p : Fin 3) → (c : Dev nD) → Dat τ (Elt F) Unit ℕ (UR sig nD τ) ℕ (Pipeline.pin (pcfgs (F := F)) adm p) c
  | ⟨0, _⟩ => fun c => dat0 (readTc (W1 m)) c
  | ⟨1, _⟩ => fun c => dat1 (readTc (W2 m)) c
  | ⟨2, _⟩ => fun c => dat2 (readTc (W3 m)) c
abbrev 𝒱₀ : Variants := Variants.none
abbrev L : GSem nD τ sig → Finset Unit := fun _ => ∅
abbrev lv : GSem nD τ sig → Unit → ℕ := fun _ _ => 0
/-- What rides beside the buffers: the generator register and an empty debt. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Call `p` as a segment: entered with the unscoped buffers at `W`, left with them at what the call leaves. The call's
    invariant is entered from, and gives back, what the launch hands over. -/
def callSeg (p : Fin 3) (launch : Pipeline.LaunchFacts (nD := nD) (τ := τ) cfgs p) (W : Dev nD → Valuation τ sig (Elt F))
    (hbody : ∀ c, Pipeline.BodyObligationLoose (pdats m p c) (defs₀ (F := F)) 𝒱₀ () Set.univ)
    (howed : ∀ c t, (pdats m p c).owed t = 0) (hq : ∀ c w, (pdats m p c).q w = fullShare)
    (hA : ∀ c w, (pdats m p c).A w = readTc W c (Pipeline.arrRef (cfgs p).spec w))
    (hrec : ∀ c x, x ∈ (pdats m p c).recorded 0)
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄)) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (leave p (pdats m p) W c) ∗ R c)
  X c := iprop(∃ r, prngReg c r)
  Y c := iprop(∃ r, prngReg c r)
  Z c := Pipeline.unscopedRest (Ix := Unit) (Name := ℕ) (U := UR sig nD τ) (Lvl := ℕ) (cfgs p).spec c (readTc W c)
  hentry c := by
    rw [Pipeline.ownSems0_none]
    have hsplit := Pipeline.arrays_of_unscopedBufs (p := p) (pcfgs (F := F)) adm (pdats m) launch.win launch.arr_whole c
      ((pdats m p c).share_full (hq c)) (readTc W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c _)
      iexact HO
    isplitl [Hp]; · iexact Hp
    iexact Hrest
  hin c := by
    refine BIBase.Entails.trans ?_ (hin c); unfold Pipeline.ΦA
    iintro ⟨Hp, -, Hr⟩
    isplitl [Hr]; · iexact Hr
    iexact Hp
  hout c := by
    rw [Pipeline.ownSems0_none]; refine (hout c).trans ?_; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (readTc W c) (readTc (leave p (pdats m p) W) c) ((pdats m p c).arrAt · (cfgs p).N)
      (fun w => (leave_arr p launch (pdats m p) W c w).symm)
      (fun b hb => leave_of_ne p (pdats m p) W c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

/-- The routing call. -/
def reg0 : Pipeline.RegionSeg (pcfgs (F := F)) adm (pdats m) () defs₀ 𝒱₀ L lv 0 :=
  callSeg m 0 launch0 (W1 m) (fun c => (body_obligation0 (readTc (W1 m)) c).loose) (fun _ _ => rfl) (fun _ _ => rfl)
    (A_eq0 (readTc (W1 m))) (fun _ _ => trivial) (fun _ => .rfl) (fun _ => .rfl)
/-- The feed-forward call. -/
def reg1 : Pipeline.RegionSeg (pcfgs (F := F)) adm (pdats m) () defs₀ 𝒱₀ L lv 1 :=
  callSeg m 1 launch1 (W2 m) (fun c => (body_obligation1 (readTc (W2 m)) c).loose) (fun _ _ => rfl) (fun _ _ => rfl)
    (A_eq1 (readTc (W2 m))) (fun _ _ => trivial) (fun _ => .rfl) (fun c => PhiS_weaken (readTc (W2 m)) c cfg1.N le_rfl)
/-- The combining call. -/
def reg2 : Pipeline.RegionSeg (pcfgs (F := F)) adm (pdats m) () defs₀ 𝒱₀ L lv 2 :=
  callSeg m 2 launch2 (W3 m) (fun c => (body_obligation2 (readTc (W3 m)) c).loose) (fun _ _ => rfl) (fun _ _ => rfl)
    (A_eq2 (readTc (W3 m))) (fun _ _ => trivial) (fun _ => .rfl) (fun _ => .rfl)

/-- @main's five segments. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)) ]

theorem main_run (c : Dev nD) : main (F := F) c = Pipeline.Seg.run (segs m) := (main_chain c).trans (by chain_rfl)

set_option backward.isDefEq.respectTransparency.types false in
/-- Every execution of @main terminates, with every unscoped buffer at the last boundary's contents and every semaphore
    counter at zero. -/
theorem run_bufs : θ_run defs (onTc (τ := τ) (main (F := F))) ⟨m, fun _ => 0, ρ⟩ (fun r =>
      (∀ c : Dev nD, ∀ b ∈ Pipeline.ucRefs τ sig, r.2.mem (c, b) = W5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (regions_no_unscoped g.2))⟩)

/-- Every execution of @main terminates with the result at the last boundary's contents, the arguments as launched
    and every semaphore counter at zero. -/
theorem run : θ_run defs (onTc (τ := τ) (main (F := F))) ⟨m, fun _ => 0, ρ⟩ (fun r => (∀ c : Dev nD,
      r.2.mem ((c.tc : Thread nD τ).loc main_v0) = W5 m c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨h.1 c _ (mem_uc main_v0 (by decide)),
     (h.1 c _ (mem_uc main_arg0 (by decide))).trans (W5_args m c _ (by decide)),
     (h.1 c _ (mem_uc main_arg1 (by decide))).trans (W5_args m c _ (by decide)),
     (h.1 c _ (mem_uc main_arg2 (by decide))).trans (W5_args m c _ (by decide)),
     (h.1 c _ (mem_uc main_arg3 (by decide))).trans (W5_args m c _ (by decide)),
     (h.1 c _ (mem_uc main_arg4 (by decide))).trans (W5_args m c _ (by decide))⟩, h.2⟩) (run_bufs m ρ)

end Cert.KernelIdeal.Hand

end
-- ==== Proof.Transport.lean ====
/- The printed program and its idealized print are one text: at the bit-level floats they are the same program, so what is
   proved of the second at any floats holds of the first. -/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

/-- The two prints' kernel bodies agree, label by label. -/
theorem defs₀_eq : Cert.Kernel.defs₀ (F := Bits) = Cert.KernelIdeal.defs₀ := by
  unfold Cert.Kernel.defs₀ Cert.KernelIdeal.defs₀
  refine congrArg Defs.onTc ?_
  funext l x
  match l, x with
  | 0, (t, s) => rfl
  | 1, (t, s) => rfl
  | 2, (t, s) => rfl

theorem defs_eq : Cert.Kernel.defs (F := Bits) = Cert.KernelIdeal.defs :=
  congrArg (Pipeline.defs Cert.KernelIdeal.pcfgs) defs₀_eq

theorem main_eq : Cert.Kernel.main (F := Bits) = Cert.KernelIdeal.main := rfl

/-- The kernel's frame. -/
theorem frame_kernel : Cert.quiescent_Kernel := by
  intro m g _
  rw [main_eq, defs_eq]
  exact (θ_run _ _ _).mono (fun r h => ⟨fun c => (h.1 c).2, h.2⟩) (Cert.KernelIdeal.Hand.run (F := Bits) m g)

/-- The idealized kernel's frame. -/
theorem frame_kernelIdeal : Cert.quiescent_KernelIdeal := fun m g _ =>
  (θ_run _ _ _).mono (fun r h => ⟨fun c => (h.1 c).2, h.2⟩) (Cert.KernelIdeal.Hand.run (F := Ideal) m g)

/-- The reference's frame: it has no semaphore at all. -/
theorem frame_reference : Cert.quiescent_ReferenceIdeal := fun m g _ =>
  (θ_run _ _ _).mono (fun r h => ⟨fun c => (h c).2, funext fun s => nomatch s.2⟩) (Cert.ReferenceIdeal.Value.run (F := Ideal) m g)

end Cert.Proof

end
-- ==== Proof.Rank.lean ====
/- The two largest entries of a row, ties to the lower position: what the stable descending sort puts first and second, and
   what two rounds of "largest entry, then the least position holding it" find. -/
module

public import Idealize.ShloMosaic.PureOps.Ideal.Laws
public import Idealize.ShloMosaic.Lib.SortFacts
public import Idealize.ShloMosaic.Lib.Routing.BitFacts

@[expose] public section

namespace Cert.Moe

open Idealize.ShloMosaic

/-! ## The first position of a row's maximum -/

/-- Position `a` holds a largest entry, and no earlier position does. -/
def FirstMax {n : ℕ} (p : Fin n → EReal) (a : Fin n) : Prop := (∀ e, p e ≤ p a) ∧ ∀ e, e < a → p e < p a

theorem FirstMax.unique {n : ℕ} {p : Fin n → EReal} {a b : Fin n} (ha : FirstMax p a) (hb : FirstMax p b) : a = b := by
  rcases lt_trichotomy a b with h | h | h
  · exact absurd (hb.2 a h) (not_lt.2 (ha.1 b))
  · exact h
  · exact absurd (ha.2 b h) (not_lt.2 (hb.1 a))

/-- Every nonempty row has one. -/
theorem exists_firstMax {n : ℕ} [NeZero n] (p : Fin n → EReal) : ∃ a, FirstMax p a := by
  obtain ⟨m, hm⟩ := Finite.exists_max p
  have hne : (Finset.univ.filter fun a => ∀ e, p e ≤ p a).Nonempty := ⟨m, by simpa using hm⟩
  refine ⟨(Finset.univ.filter fun a => ∀ e, p e ≤ p a).min' hne, ?_, fun e he => ?_⟩
  · exact (Finset.mem_filter.1 (Finset.min'_mem _ hne)).2
  · by_contra hle
    have hmin := (Finset.mem_filter.1 (Finset.min'_mem _ hne)).2
    refine absurd (Finset.min'_le (Finset.univ.filter fun a => ∀ e, p e ≤ p a) e ?_) (not_le.2 he)
    exact Finset.mem_filter.2 ⟨Finset.mem_univ _, fun e' => (hmin e').trans (not_lt.1 hle)⟩

/-- The row with position `a` struck out. -/
noncomputable def strike {n : ℕ} (p : Fin n → EReal) (a : Fin n) : Fin n → EReal := fun e => if e = a then ⊥ else p e

/-- `a` is the row's first maximum and `b` the first maximum once `a` is struck out. -/
structure Picks {n : ℕ} (p : Fin n → EReal) (a b : Fin n) : Prop where
  top : FirstMax p a
  next : FirstMax (strike p a) b

theorem Picks.unique {n : ℕ} {p : Fin n → EReal} {a b a' b' : Fin n} (h : Picks p a b) (h' : Picks p a' b') : a = a' ∧ b = b' := by
  obtain rfl := h.top.unique h'.top
  exact ⟨rfl, h.next.unique h'.next⟩

/-- In a row whose entries all exceed `⊥` the two positions differ. -/
theorem Picks.ne {p : Fin 8 → EReal} {a b : Fin 8} (h : Picks p a b) (hp : ∀ e, ⊥ < p e) : b ≠ a := by
  rintro rfl
  obtain ⟨e, he⟩ := exists_ne b
  have := h.next.1 e
  rw [strike, strike, if_neg he, if_pos rfl] at this
  exact absurd (hp e) (not_lt.2 this)

/-! ## The stable descending sort -/

/-- "Sorts strictly before, the lower position first among equals": the order the stable sort produces. -/
noncomputable def ahead {n : ℕ} (p : Fin n → EReal) (a b : Fin n) : Bool := decide (p b < p a ∨ (p a = p b ∧ a < b))

theorem ahead_eq {n : ℕ} (p : Fin n → EReal) (a b : Fin n) : ahead p a b = true ↔ (p b < p a ∨ (p a = p b ∧ a < b)) := by
  simp [ahead]

/-- Sorting a list of increasing positions by the entries alone is sorting it by `ahead`. -/
theorem stableSort_ahead {n : ℕ} (p : Fin n → EReal) (l : List (Fin n)) (hl : l.Pairwise (· < ·)) :
    stableSort (fun a b => decide (p b < p a)) l = stableSort (ahead p) l := by
  induction l with
  | nil => rfl
  | cons a l ih =>
    rw [List.pairwise_cons] at hl
    unfold stableSort
    rw [ih hl.2]
    refine insertBefore_congr _ _ a _ fun b hb => ?_
    have hab : a < b := hl.1 b ((perm_stableSort _ _).mem_iff.1 hb)
    refine decide_eq_decide.2 ⟨Or.inl, ?_⟩
    rintro (h | ⟨-, h⟩)
    · exact h
    · exact absurd h (not_lt.2 hab.le)

/-- The stable descending sort puts first and second the two picks, when every entry exceeds `⊥`. -/
theorem picks_sortedFrom {n : ℕ} (p : Fin (n + 2) → EReal) :
    Picks p (sortedFrom (fun a b => decide (p b < p a)) 0) (sortedFrom (fun a b => decide (p b < p a)) 1)
      ∨ ∃ e, p e = ⊥ := by
  by_cases hbot : ∃ e, p e = ⊥
  · exact Or.inr hbot
  left
  have hpos : ∀ e, ⊥ < p e := fun e => bot_lt_iff_ne_bot.2 fun h => hbot ⟨e, h⟩
  have hs : sortedFrom (fun a b => decide (p b < p a)) = sortedFrom (ahead p) := by
    funext k
    unfold sortedFrom sortPositions
    rw [List.get_of_eq (stableSort_ahead p _ (List.pairwise_lt_finRange _))]
    rfl
  rw [hs]
  -- no position sorts ahead of one placed before it
  have hno : ∀ i j : Fin (n + 2), i < j → ¬(ahead p (sortedFrom (ahead p) j) (sortedFrom (ahead p) i) = true) := fun i j hij => by
    rw [Bool.not_eq_true]
    refine sortedFrom_noInversion (ahead p) (ahead p) (fun a b h => ?_) (fun _ _ h => h) (fun a b c hab hbc => ?_) i j hij
    · rw [ahead_eq] at h
      rw [← Bool.not_eq_true, ahead_eq]
      rintro (h' | ⟨h', h''⟩)
      · rcases h with h | ⟨h, -⟩
        · exact absurd h (not_lt.2 h'.le)
        · exact absurd h.symm h'.ne'
      · rcases h with h | ⟨-, h⟩
        · exact absurd h' h.ne
        · exact absurd h (not_lt.2 h''.le)
    · rw [← Bool.not_eq_true, ahead_eq] at hab hbc ⊢
      push Not at hab hbc ⊢
      refine ⟨hab.1.trans hbc.1, fun hac => ?_⟩
      have h1 : p a = p b := le_antisymm hab.1 (hbc.1.trans hac.symm.le)
      exact (hbc.2 (h1.symm.trans hac)).trans (hab.2 h1)
  have hsurj := sortedFrom_surjective (ahead p)
  have hinj := sortedFrom_injective (ahead p)
  refine ⟨⟨fun e => ?_, fun e he => ?_⟩, ⟨fun e => ?_, fun e he => ?_⟩⟩
  · obtain ⟨j, rfl⟩ := hsurj e
    rcases eq_or_ne j 0 with rfl | hj
    · exact le_rfl
    · have := hno 0 j (Fin.pos_iff_ne_zero.2 hj)
      rw [ahead_eq] at this
      push Not at this
      exact this.1
  · obtain ⟨j, rfl⟩ := hsurj e
    have hj : j ≠ 0 := by rintro rfl; exact lt_irrefl _ he
    have := hno 0 j (Fin.pos_iff_ne_zero.2 hj)
    rw [ahead_eq] at this
    push Not at this
    exact lt_of_le_of_ne this.1 fun h => absurd he (not_lt.2 (this.2 h))
  all_goals
    have h10 : sortedFrom (ahead p) 1 ≠ sortedFrom (ahead p) 0 := fun h => absurd (hinj h) (by simp)
    obtain ⟨j, rfl⟩ := hsurj e
  · rw [strike, strike, if_neg h10]
    split
    · exact bot_le
    · next hj0 =>
      rcases eq_or_ne j 1 with rfl | hj1
      · exact le_rfl
      · have hj : (1 : Fin (n + 2)) < j := by
          rcases lt_trichotomy j 1 with h | h | h
          · exact absurd (congrArg (sortedFrom (ahead p)) (Fin.lt_one_iff j |>.1 h)) hj0
          · exact absurd h hj1
          · exact h
        have := hno 1 j hj
        rw [ahead_eq] at this
        push Not at this
        exact this.1
  · rw [strike, strike, if_neg h10]
    split
    · exact hpos _
    · next hj0 =>
      have hj1 : j ≠ 1 := by rintro rfl; exact lt_irrefl _ he
      have hj : (1 : Fin (n + 2)) < j := by
        rcases lt_trichotomy j 1 with h | h | h
        · exact absurd (congrArg (sortedFrom (ahead p)) (Fin.lt_one_iff j |>.1 h)) hj0
        · exact absurd h hj1
        · exact h
      have := hno 1 j hj
      rw [ahead_eq] at this
      push Not at this
      exact lt_of_le_of_ne this.1 fun h => absurd he (not_lt.2 (this.2 h))

/-! ## The least position holding a value -/

/-- A row's largest entry, as a fold of `max` from `⊥`. -/
theorem fold_max_eq {n : ℕ} {p : Fin n → EReal} {a : Fin n} (h : FirstMax p a) :
    (Finset.univ : Finset (Fin n)).fold max ⊥ p = p a :=
  le_antisymm (Finset.fold_max_le _ |>.2 ⟨bot_le, fun e _ => h.1 e⟩) (Finset.le_fold_max _ |>.2 (Or.inr ⟨a, Finset.mem_univ _, le_rfl⟩))

/-- The fold of the signed minimum over the positions holding the row's largest entry is the first of them. -/
theorem fold_minsi_eq {n : ℕ} (hn : n < 2 ^ 31) {p : Fin n → EReal} {a : Fin n} (h : FirstMax p a) (f : Fin n → BitVec 32)
    (hf : ∀ e, f e = if p e = p a then BitVec.ofNat 32 e.val else BitVec.ofNat 32 n) :
    (Finset.univ : Finset (Fin n)).fold IntOp.minsi 2147483647#32 f = BitVec.ofNat 32 a.val := by
  have hnat : ∀ k : ℕ, k < 2 ^ 31 → (BitVec.ofNat 32 k).toInt = k := fun k hk => by
    rw [BitVec.toInt_ofNat']; exact Int.bmod_eq_of_le_mul_two (by omega) (by omega)
  have hom : ∀ x y : BitVec 32, (IntOp.minsi x y).toInt = min x.toInt y.toInt := fun x y => by
    unfold IntOp.minsi
    rw [BitVec.slt_eq_decide]
    by_cases hlt : x.toInt < y.toInt
    · simp [hlt, min_eq_left hlt.le]
    · simp [hlt, min_eq_right (not_lt.1 hlt)]
  apply BitVec.eq_of_toInt_eq
  rw [← Finset.fold_hom (m := BitVec.toInt) (op' := min) hom, hnat a.val (by omega)]
  have hv : ∀ e, (f e).toInt = if p e = p a then (e.val : ℤ) else n := fun e => by
    rw [hf]; split
    · exact hnat _ (by omega)
    · exact hnat _ hn
  refine le_antisymm (Finset.fold_min_le _ |>.2 (Or.inr ⟨a, Finset.mem_univ _, by rw [hv, if_pos rfl]⟩))
    (Finset.le_fold_min _ |>.2 ⟨?_, fun e _ => ?_⟩)
  · have : (2147483647#32).toInt = 2147483647 := by decide
    rw [this]; omega
  · rw [hv]; split
    · next he =>
      have : ¬ e < a := fun hlt => absurd he (h.2 e hlt).ne
      have := Fin.le_def.1 (not_lt.1 this)
      exact_mod_cast this
    · have := a.isLt; omega

end Cert.Moe
-- ==== Proof.Place.lean ====
/- Where a routed token lands: the running counts of the tokens sent to each expert, the position of a token in its expert's
   queue, and the words and masks both programs build from them. -/
module

public import proofs.«01_k».proof.Proof.Rank
public import Idealize.ShloMosaic.Lib.IdealHost

@[expose] public section

namespace Cert.Moe

open Idealize.ShloMosaic
open scoped BigOperators

/-! ## Counting -/

/-- How many of the tokens up to and including `s` chose expert `e`. -/
def cnt (a : Fin 512 → Fin 8) (s : Fin 512) (e : Fin 8) : ℕ := (Finset.univ.filter fun s' => s' ≤ s ∧ a s' = e).card

/-- How many of the tokens chose expert `e`. -/
def tot (a : Fin 512 → Fin 8) (e : Fin 8) : ℕ := (Finset.univ.filter fun s' => a s' = e).card

theorem cnt_le (a : Fin 512 → Fin 8) (s : Fin 512) (e : Fin 8) : cnt a s e ≤ 512 :=
  (Finset.card_le_univ _).trans_eq (Fintype.card_fin 512)

theorem tot_le (a : Fin 512 → Fin 8) (e : Fin 8) : tot a e ≤ 512 :=
  (Finset.card_le_univ _).trans_eq (Fintype.card_fin 512)

/-- A token is among the tokens that chose its expert. -/
theorem cnt_pos (a : Fin 512 → Fin 8) (s : Fin 512) : 1 ≤ cnt a s (a s) :=
  Finset.card_pos.2 ⟨s, by simp⟩

/-- Up to the last token every token is counted. -/
theorem cnt_last (a : Fin 512 → Fin 8) (e : Fin 8) : cnt a ⟨511, by norm_num⟩ e = tot a e := by
  unfold cnt tot
  congr 1
  ext s
  have : s ≤ (⟨511, by norm_num⟩ : Fin 512) := Fin.le_def.2 (by have := s.isLt; show s.val ≤ 511; omega)
  rw [Finset.mem_filter, Finset.mem_filter]
  exact ⟨fun h => ⟨h.1, h.2.2⟩, fun h => ⟨h.1, this, h.2⟩⟩

/-- The sum of the products of two masks is a count. -/
theorem sum_mask (a : Fin 512 → Fin 8) (s : Fin 512) (e : Fin 8) :
    (∑ k : Fin 512, (if k ≤ s then (1 : EReal) else 0) * (if e = a k then 1 else 0)) = (cnt a s e : EReal) := by
  unfold cnt
  rw [← Finset.sum_boole]
  refine Finset.sum_congr rfl fun k _ => ?_
  by_cases h : k ≤ s
  · by_cases h' : a k = e
    · simp [h, h']
    · simp [h, h', Ne.symm h']
  · simp [h]

/-- A token's position in its first expert's queue. -/
def pos0 (a : Fin 512 → Fin 8) (s : Fin 512) : ℕ := cnt a s (a s) - 1

/-- A token's position in its second expert's queue, behind every token that chose that expert first. -/
def pos1 (a b : Fin 512 → Fin 8) (s : Fin 512) : ℕ := tot a (b s) + cnt b s (b s) - 1

/-! ## A count as a word -/

theorem sub_one_eq (n : ℕ) (h : 1 ≤ n) : (n : EReal) - 1 = (((n - 1 : ℕ) : ℝ) : EReal) := by
  obtain ⟨m, rfl⟩ := Nat.exists_eq_add_of_le h
  have h2 : ((1 + m : ℕ) : EReal) = (((1 + m : ℕ) : ℝ) : EReal) := (EReal.coe_natCast).symm
  rw [h2, ← EReal.coe_one, ← EReal.coe_sub]
  congr 1
  push_cast [Nat.add_sub_cancel_left]
  ring

theorem fptosi_count (n : ℕ) (h1 : 1 ≤ n) (h : n ≤ 2 ^ 20) : Ideal.fptosi 32 ((n : EReal) - 1) = BitVec.ofNat 32 (n - 1) := by
  rw [sub_one_eq n h1]
  unfold Ideal.fptosi
  rw [Ideal.toIntClamped_coe, if_pos (Nat.cast_nonneg _), Int.floor_natCast]
  have : max (-(2 ^ (32 - 1) : ℕ) : ℤ) (min ((2 ^ (32 - 1) : ℕ) - 1) ((n - 1 : ℕ) : ℤ)) = ((n - 1 : ℕ) : ℤ) := by
    push_cast
    omega
  rw [this, BitVec.ofInt_natCast]

/-- The row of the routed block a token takes, or the all-ones word when its queue position is past the capacity. -/
def rowWord (a n : ℕ) : BitVec 32 := if n < 160 then BitVec.ofNat 32 (a * 160 + n) else 4294967295#32

theorem rowWord_eq (a n : ℕ) (hn : n < 2 ^ 20) :
    Scalar.select (IntOp.cmpi .slt (BitVec.ofNat 32 n) 160#32) (BitVec.ofNat 32 a * 160#32 + BitVec.ofNat 32 n) 4294967295#32 = rowWord a n := by
  have h : (IntOp.cmpi .slt (BitVec.ofNat 32 n) 160#32) = BitVec.ofBool (decide (n < 160)) := by
    show BitVec.ofBool ((BitVec.ofNat 32 n).slt (BitVec.ofNat 32 160)) = _
    rw [BitVec.slt_eq_decide, BitVec.toInt_ofNat', BitVec.toInt_ofNat', Int.bmod_eq_of_le_mul_two (by omega) (by omega),
      Int.bmod_eq_of_le_mul_two (by omega) (by omega)]
    simp
  rw [h]
  unfold rowWord Scalar.select
  by_cases hlt : n < 160
  · simp only [hlt, decide_true, if_true]
    rw [BitVec.ofNat_add, BitVec.ofNat_mul]
    rfl
  · simp [hlt]

/-- Row `e * 160 + c` is a token's row exactly when `e` is its expert and `c` its queue position. -/
theorem row_eq_rowWord (a e : Fin 8) (c : Fin 160) (n : ℕ) :
    BitVec.ofNat 32 (e.val * 160 + c.val) = rowWord a.val n ↔ a = e ∧ n = c.val := by
  have he := e.isLt
  have hc := c.isLt
  have ha := a.isLt
  have hw : ∀ k, k < 2 ^ 32 → (BitVec.ofNat 32 k).toNat = k := fun k hk => by rw [BitVec.toNat_ofNat]; exact Nat.mod_eq_of_lt hk
  unfold rowWord
  constructor
  · intro h
    have h' := congrArg BitVec.toNat h
    rw [hw _ (by omega)] at h'
    split at h'
    · rw [hw _ (by omega)] at h'
      exact ⟨Fin.ext (by omega), by omega⟩
    · rw [show (4294967295#32 : BitVec 32).toNat = 4294967295 from rfl] at h'
      omega
  · rintro ⟨rfl, rfl⟩
    rw [if_pos hc]

/-! ## A one-bit word as a number -/

theorem mask_kernel (b : Prop) [Decidable b] :
    (((BitVec.setWidth 32 (BitVec.ofBool (decide b))).toInt : ℝ) : EReal) = if b then (1 : EReal) else 0 := by
  by_cases h : b <;> simp [h]

theorem mask_host (b : Prop) [Decidable b] : (((BitVec.ofBool (decide b)).toNat : ℝ) : EReal) = if b then (1 : EReal) else 0 := by
  by_cases h : b <;> simp [h]

end Cert.Moe
-- ==== Proof.Route.lean ====
/- The routing of one group of tokens as plain mathematics: logits, softmax, the two chosen experts, and the weights with which a
   token enters and leaves each place of each expert's queue. -/
module

public import proofs.«01_k».proof.Proof.Place

@[expose] public section

namespace Cert.Moe

open Idealize.ShloMosaic
open scoped BigOperators

/-! ## The router's probabilities -/

/-- A token's logit for an expert. -/
noncomputable def logit (x : Fin 2048 → EReal) (w : Fin 2048 → Fin 8 → EReal) (e : Fin 8) : EReal := ∑ d, x d * w d e

/-- A row's largest entry. -/
noncomputable def rowMax (l : Fin 8 → EReal) : EReal := Finset.fold max ⊥ l Finset.univ

/-- The softmax of a row. -/
noncomputable def soft (l : Fin 8 → EReal) (e : Fin 8) : EReal :=
  Ideal.div (Ideal.exp (l e - rowMax l)) (∑ e', Ideal.exp (l e' - rowMax l))

theorem exp_nonneg (x : EReal) : 0 ≤ Ideal.exp x := by
  induction x using EReal.rec with
  | bot => exact le_rfl
  | top => exact le_top
  | coe r => exact EReal.coe_nonneg.2 (Real.exp_pos r).le

/-- Where the largest logit is finite the softmax is nowhere `⊥`. -/
theorem soft_pos (l : Fin 8 → EReal) (ht : rowMax l ≠ ⊤) (hb : rowMax l ≠ ⊥) (e : Fin 8) : ⊥ < soft l e := by
  obtain ⟨a, ha⟩ := exists_firstMax l
  have hm : rowMax l = l a := fold_max_eq ha
  have h1 : Ideal.exp (l a - rowMax l) = 1 := by
    rw [hm] at ht hb ⊢
    lift l a to ℝ using ⟨ht, hb⟩ with r
    rw [← EReal.coe_sub, sub_self]
    show ((Real.exp 0 : ℝ) : EReal) = 1
    rw [Real.exp_zero, EReal.coe_one]
  have hs : (1 : EReal) ≤ ∑ e', Ideal.exp (l e' - rowMax l) := by
    rw [← h1]
    exact Finset.single_le_sum (f := fun e' => Ideal.exp (l e' - rowMax l)) (fun i _ => exp_nonneg _) (Finset.mem_univ a)
  have h0 : (0 : EReal) < ∑ e', Ideal.exp (l e' - rowMax l) := lt_of_lt_of_le zero_lt_one hs
  unfold soft Ideal.div
  rw [if_neg h0.ne']
  exact lt_of_lt_of_le EReal.bot_lt_zero (mul_nonneg (exp_nonneg _) (EReal.inv_nonneg_of_nonneg h0.le))

/-! ## The two experts of each token -/

/-- A token's first expert. -/
noncomputable def fst (P : Fin 512 → Fin 8 → EReal) (s : Fin 512) : Fin 8 := (exists_firstMax (P s)).choose

/-- A token's second expert. -/
noncomputable def snd (P : Fin 512 → Fin 8 → EReal) (s : Fin 512) : Fin 8 := (exists_firstMax (strike (P s) (fst P s))).choose

theorem picks (P : Fin 512 → Fin 8 → EReal) (s : Fin 512) : Picks (P s) (fst P s) (snd P s) :=
  ⟨(exists_firstMax (P s)).choose_spec, (exists_firstMax (strike (P s) (fst P s))).choose_spec⟩

/-! ## The weights -/

/-- How often (once or not at all) token `s` takes place `c` of expert `e`'s queue. -/
noncomputable def takes (a b : Fin 512 → Fin 8) (s : Fin 512) (e : Fin 8) (c : Fin 160) : EReal :=
  (if a s = e ∧ pos0 a s = c.val then 1 else 0) + (if b s = e ∧ pos1 a b s = c.val then 1 else 0)

/-- The weight with which token `s` reads place `c` of expert `e`'s queue back. -/
noncomputable def gate (v0 v1 : Fin 512 → EReal) (a b : Fin 512 → Fin 8) (s : Fin 512) (e : Fin 8) (c : Fin 160) : EReal :=
  (if a s = e ∧ pos0 a s = c.val then v0 s else 0) + (if b s = e ∧ pos1 a b s = c.val then v1 s else 0)

end Cert.Moe
-- ==== Proof.RouterValue.lean ====
/- What the routing body computes, read at an index on the extended reals. -/
module

public import proofs.«01_k».proof.Proof.Route
public import proofs.«01_k».proof.Proof.Router
public import Idealize.ShloMosaic.Lib.Pointwise

@[expose] public section

namespace Cert.KernelIdeal.Hand

open Cert.KernelIdeal Cert.KernelIdeal.Gen Idealize.ShloMosaic Cert.Moe
open scoped BigOperators

theorem ofBits_bot : Ideal.ofBits .f32 4286578688#32 = ⊥ := by simp [Ideal.ofBits, Ideal.ieee]

theorem cmpi_eq_nat (a b : Fin 8) : IntOp.cmpi .eq (BitVec.ofNat 32 a.val) (BitVec.ofNat 32 b.val) = BitVec.ofBool (decide (a = b)) := by
  revert a b; decide

/-- The probabilities of a block of tokens. -/
noncomputable def blockProb (v0 : FVec Ideal S1x512x2048 .f32) (v2 : FVec Ideal S2048x8 .f32) (s : Fin 512) : Fin 8 → EReal :=
  soft (logit (fun d => v0 (ix3 0 s d)) fun d e => v2 (ix2 d e))

section Top
variable {v0 : FVec Ideal S1x512x2048 .f32} {v2 : FVec Ideal S2048x8 .f32} {a b : Fin 512 → Fin 8}

theorem pay4_apply (s : Fin 512) (e : Fin 8) : k0_pay4 (F := Ideal) v0 v2 (ix2 s e) = blockProb v0 v2 s e := by
  pointwise [k0_pay4, k0_pay3]
  simp only [ofBits_bot]
  rfl

variable (hp : ∀ s, Picks (blockProb v0 v2 s) (a s) (b s))
include hp

theorem pay5_apply (s : Fin 512) (z : Fin 1) : k0_pay5 (F := Ideal) v0 v2 (ix2 s z) = blockProb v0 v2 s (a s) := by
  pointwise [k0_pay5]
  simp only [ofBits_bot, pay4_apply]
  exact fold_max_eq (hp s).top

theorem pay6_apply (s : Fin 512) (z : Fin 1) : k0_pay6 (F := Ideal) v0 v2 (ix2 s z) = BitVec.ofNat 32 (a s).val := by
  pointwise [k0_pay6]
  simp only [pay4_apply, pay5_apply hp]
  exact fold_minsi_eq (by norm_num) (hp s).top _ fun e => rfl

theorem pay7_apply (s : Fin 512) (e : Fin 8) : k0_pay7 (F := Ideal) v0 v2 (ix2 s e) = strike (blockProb v0 v2 s) (a s) e := by
  pointwise [k0_pay7]
  rw [pay4_apply, pay6_apply hp, cmpi_eq_nat, ofBits_bot]
  unfold strike Scalar.select
  by_cases h : e = a s <;> simp [h]

theorem pay8_apply (s : Fin 512) (z : Fin 1) : k0_pay8 (F := Ideal) v0 v2 (ix2 s z) = strike (blockProb v0 v2 s) (a s) (b s) := by
  pointwise [k0_pay8]
  simp only [ofBits_bot, pay7_apply hp]
  exact fold_max_eq (hp s).next

theorem pay9_apply (s : Fin 512) (z : Fin 1) : k0_pay9 (F := Ideal) v0 v2 (ix2 s z) = BitVec.ofNat 32 (b s).val := by
  pointwise [k0_pay9]
  simp only [pay7_apply hp, pay8_apply hp]
  exact fold_minsi_eq (by norm_num) (hp s).next _ fun e => rfl

theorem pay10_apply (s : Fin 512) (e : Fin 8) : k0_pay10 (F := Ideal) v0 v2 (ix2 s e) = if e = a s then 1 else 0 := by
  pointwise [k0_pay10]
  rw [pay6_apply hp, cmpi_eq_nat]
  exact mask_kernel _

theorem pay11_apply (s : Fin 512) (e : Fin 8) : k0_pay11 (F := Ideal) v0 v2 (ix2 s e) = if e = b s then 1 else 0 := by
  pointwise [k0_pay11]
  rw [pay9_apply hp, cmpi_eq_nat]
  exact mask_kernel _

end Top

section Rows
variable {v37 v41 : FVec Ideal S512x8 .f32} {v21 v33 : IVec S512x1 32} {v42 v43 : IVec S512x512 32} {a b : Fin 512 → Fin 8}

theorem pay12_apply (h42 : ∀ s k : Fin 512, v42 (ix2 s k) = BitVec.ofNat 32 s.val) (h43 : ∀ s k : Fin 512, v43 (ix2 s k) = BitVec.ofNat 32 k.val)
    (s k : Fin 512) : k0_pay12 (F := Ideal) v42 v43 (ix2 s k) = if k ≤ s then 1 else 0 := by
  pointwise [k0_pay12]
  rw [h42, h43]
  have h : IntOp.cmpi .sle (BitVec.ofNat 32 k.val) (BitVec.ofNat 32 s.val) = BitVec.ofBool (decide (k ≤ s)) := by
    show BitVec.ofBool ((BitVec.ofNat 32 k.val).sle (BitVec.ofNat 32 s.val)) = _
    have := k.isLt
    have := s.isLt
    rw [BitVec.sle_eq_decide, BitVec.toInt_ofNat', BitVec.toInt_ofNat', Int.bmod_eq_of_le_mul_two (by omega) (by omega),
      Int.bmod_eq_of_le_mul_two (by omega) (by omega)]
    simp
  rw [h]
  exact mask_kernel _

variable (h42 : ∀ s k : Fin 512, v42 (ix2 s k) = BitVec.ofNat 32 s.val) (h43 : ∀ s k : Fin 512, v43 (ix2 s k) = BitVec.ofNat 32 k.val)
  (h37 : ∀ s (e : Fin 8), v37 (ix2 s e) = if e = a s then 1 else 0)
include h42 h43 h37

theorem pay13_apply (s : Fin 512) (e : Fin 8) : k0_pay13 (F := Ideal) v37 v42 v43 (ix2 s e) = (cnt a s e : EReal) := by
  pointwise [k0_pay13]
  simp only [pay12_apply h42 h43, h37]
  exact sum_mask a s e

/-- A token's row of the routed block by its first choice. -/
theorem pay14_apply (h21 : ∀ s (z : Fin 1), v21 (ix2 s z) = BitVec.ofNat 32 (a s).val) (s : Fin 512) (z : Fin 1) :
    k0_pay14 (F := Ideal) v21 v37 v42 v43 (ix2 s z) = rowWord (a s).val (pos0 a s) := by
  pointwise [k0_pay14]
  simp only [pay13_apply h42 h43 h37, h37, h21, mul_ite, mul_one, mul_zero, Finset.sum_ite_eq', Finset.mem_univ, if_true]
  have h : (FloatOps.fptosi (F := Ideal) (φ := .f32) 32 ((cnt a s (a s) : EReal) - 1)) = BitVec.ofNat 32 (pos0 a s) :=
    fptosi_count _ (cnt_pos a s) ((cnt_le a s _).trans (by norm_num))
  rw [h]
  exact rowWord_eq _ _ (by have := cnt_le a s (a s); unfold pos0; omega)

/-- A token's row of the routed block by its second choice. -/
theorem pay15_apply (h33 : ∀ s (z : Fin 1), v33 (ix2 s z) = BitVec.ofNat 32 (b s).val)
    (h41 : ∀ s (e : Fin 8), v41 (ix2 s e) = if e = b s then 1 else 0) (s : Fin 512) (z : Fin 1) :
    k0_pay15 (F := Ideal) v33 v37 v41 v42 v43 (ix2 s z) = rowWord (b s).val (pos1 a b s) := by
  pointwise [k0_pay15]
  simp only [pay13_apply h42 h43 h37, pay12_apply h42 h43, h41, h33, sum_mask b]
  simp only [mul_ite, mul_one, mul_zero, Finset.sum_ite_eq', Finset.mem_univ, if_true]
  have hl : (cnt a (511 : Fin 512) (b s)) = tot a (b s) := cnt_last a (b s)
  have h : (FloatOps.fptosi (F := Ideal) (φ := .f32) 32 ((cnt b s (b s) : EReal) + (cnt a (511 : Fin 512) (b s) : EReal) - 1))
      = BitVec.ofNat 32 (pos1 a b s) := by
    rw [hl, ← Nat.cast_add, add_comm (cnt b s (b s))]
    exact fptosi_count _ ((cnt_pos b s).trans (Nat.le_add_left _ _)) (by have := cnt_le b s (b s); have := tot_le a (b s); omega)
  rw [h]
  exact rowWord_eq _ _ (by have := cnt_le b s (b s); have := tot_le a (b s); unfold pos1; omega)

end Rows

end Cert.KernelIdeal.Hand
-- ==== Proof.RouterOut.lean ====
/- The two blocks the routing body leaves, read at an index: the routed tokens of each expert, and the combine weights. -/
module

public import proofs.«01_k».proof.Proof.RouterValue
public import Idealize.ShloMosaic.Lib.Pipeline.ValueKit.Tiles

@[expose] public section

namespace Cert.KernelIdeal.Hand

open Cert.KernelIdeal Cert.KernelIdeal.Gen Idealize.ShloMosaic Cert.Moe
open scoped BigOperators

/-- The mask of a slab: row `c` of expert `e` is the row word asked for. -/
theorem slab_mask (a e : Fin 8) (c : Fin 160) (n : ℕ) (w : BitVec 32) (hw : w = BitVec.ofNat 32 (e.val * 160)) :
    (FloatOps.sitofp (F := Ideal) .f32 (BitVec.setWidth 32 (IntOp.cmpi .eq (IntOp.addi (BitVec.ofNat 32 c.val) w) (rowWord a.val n)) : BitVec 32))
      = if a = e ∧ n = c.val then 1 else 0 := by
  have h : IntOp.cmpi .eq (IntOp.addi (BitVec.ofNat 32 c.val) w) (rowWord a.val n) = BitVec.ofBool (decide (a = e ∧ n = c.val)) := by
    show BitVec.ofBool (decide (BitVec.ofNat 32 c.val + w = rowWord a.val n)) = _
    rw [hw, ← BitVec.ofNat_add, add_comm]
    congr 1
    exact decide_eq_decide.mpr (row_eq_rowWord a e c n)
  rw [h]
  exact mask_kernel _

theorem select_ofBool {α : Type} (p : Prop) [Decidable p] (x y : α) : Scalar.select (BitVec.ofBool (decide p)) x y = if p then x else y := by
  unfold Scalar.select
  by_cases h : p <;> simp [h]

/-- The mask of the combine weights, at a row of the flattened 8×160 axis. -/
theorem comb_mask (a e : Fin 8) (c : Fin 160) (n : ℕ) :
    IntOp.cmpi .eq (BitVec.ofNat 32 (e.val * 160 + c.val)) (rowWord a.val n) = BitVec.ofBool (decide (a = e ∧ n = c.val)) := by
  show BitVec.ofBool (decide (_ = _)) = _
  congr 1
  exact decide_eq_decide.mpr (row_eq_rowWord a e c n)

section Block
variable {x0 : Vec Ideal S1x512x2048 .f32} {x1 : Vec Ideal S2048x8 .f32} {a b : Fin 512 → Fin 8}

theorem ld0 : View.ld x0 r0_0 = x0 := View.ld_unit_lit _ x0 (by decide)
theorem ld1 : View.ld x1 r0_1 = x1 := View.ld_unit_lit _ x1 (by decide)

theorem pay29_apply (s k : Fin 512) : k0_pay29 (F := Ideal) x0 x1 (ix2 s k) = BitVec.ofNat 32 s.val := by pointwise [k0_pay29]
theorem pay30_apply (s k : Fin 512) : k0_pay30 (F := Ideal) x0 x1 (ix2 s k) = BitVec.ofNat 32 k.val := by pointwise [k0_pay30]
theorem pay36_apply (s : Fin 512) (c : Fin 160) : k0_pay36 (F := Ideal) x0 x1 (ix2 s c) = BitVec.ofNat 32 c.val := by pointwise [k0_pay36]
theorem pay31_apply (s : Fin 512) (d : Fin 2048) : k0_pay31 (F := Ideal) x0 x1 (ix2 s d) = x0 (ix3 0 s d) := by
  unfold k0_pay31; rw [ld0]; pointwise [k0_pay3]

variable (hp : ∀ s, Picks (blockProb x0 x1 s) (a s) (b s))
include hp

theorem pay32_apply (s : Fin 512) (z : Fin 1) : k0_pay32 (F := Ideal) x0 x1 (ix2 s z) = BitVec.ofNat 32 (a s).val := by
  unfold k0_pay32; rw [ld0, ld1]; exact pay6_apply hp s z
theorem pay33_apply (s : Fin 512) (z : Fin 1) : k0_pay33 (F := Ideal) x0 x1 (ix2 s z) = BitVec.ofNat 32 (b s).val := by
  unfold k0_pay33; rw [ld0, ld1]; exact pay9_apply hp s z
theorem pay34_apply (s : Fin 512) (e : Fin 8) : k0_pay34 (F := Ideal) x0 x1 (ix2 s e) = if e = a s then 1 else 0 := by
  unfold k0_pay34; rw [ld0, ld1]; exact pay10_apply hp s e
theorem pay35_apply (s : Fin 512) (e : Fin 8) : k0_pay35 (F := Ideal) x0 x1 (ix2 s e) = if e = b s then 1 else 0 := by
  unfold k0_pay35; rw [ld0, ld1]; exact pay11_apply hp s e
theorem pay37_apply (s : Fin 512) (z : Fin 1) : k0_pay37 (F := Ideal) x0 x1 (ix2 s z) = rowWord (a s).val (pos0 a s) :=
  pay14_apply pay29_apply pay30_apply (pay34_apply hp) (pay32_apply hp) s z
theorem pay38_apply (s : Fin 512) (z : Fin 1) : k0_pay38 (F := Ideal) x0 x1 (ix2 s z) = rowWord (b s).val (pos1 a b s) :=
  pay15_apply pay29_apply pay30_apply (pay34_apply hp) (pay33_apply hp) (pay35_apply hp) s z

/-- The routed block: row `c` of expert `e` is the sum of the tokens placed there. -/
theorem out0_2_apply (e : Fin 8) (c : Fin 160) (d : Fin 2048) :
    out0_2 (F := Ideal) x0 x1 (ix3 e c d) = ∑ s, takes a b s e c * x0 (ix3 0 s d) := by
  have fin (k : ℕ) (z : Fin 1) (c' : Fin 160) (d' : Fin 2048) (he : e.val = k + z.val) (hc : c.val = c'.val) (hd : d.val = d'.val)
      (w : BitVec 32) (hw : w = BitVec.ofNat 32 (k * 160)) :
      (∑ s, ((FloatOps.sitofp (F := Ideal) .f32 (BitVec.setWidth 32 (IntOp.cmpi .eq (IntOp.addi (BitVec.ofNat 32 c'.val) w) (rowWord (a s).val (pos0 a s))) : BitVec 32))
        + (FloatOps.sitofp (F := Ideal) .f32 (BitVec.setWidth 32 (IntOp.cmpi .eq (IntOp.addi (BitVec.ofNat 32 c'.val) w) (rowWord (b s).val (pos1 a b s))) : BitVec 32)))
          * x0 (ix3 0 s d')) = ∑ s, takes a b s e c * x0 (ix3 0 s d) := by
    obtain rfl : k = e.val := by omega
    obtain rfl : c = c' := Fin.ext hc
    obtain rfl : d = d' := Fin.ext hd
    simp only [slab_mask _ e c _ w hw]
    rfl
  unfold out0_2
  canon_tiles y h
  all_goals
    idx_vars y
    pointwise [k0_pay1, k0_pay16, k0_pay17, k0_pay18, k0_pay19, k0_pay20, k0_pay21, k0_pay22, k0_pay23, k0_pay24, k0_pay25, k0_pay26, k0_pay27, k0_pay28]
    simp only [pay36_apply, pay37_apply hp, pay38_apply hp, pay31_apply]
  · exact fin 7 y0 y1 y2 h0 h1 h2 _ rfl
  · exact fin 6 y0 y1 y2 h0 h1 h2 _ rfl
  · exact fin 5 y0 y1 y2 h0 h1 h2 _ rfl
  · exact fin 4 y0 y1 y2 h0 h1 h2 _ rfl
  · exact fin 3 y0 y1 y2 h0 h1 h2 _ rfl
  · exact fin 2 y0 y1 y2 h0 h1 h2 _ rfl
  · exact fin 1 y0 y1 y2 h0 h1 h2 _ rfl
  · refine Eq.trans ?_ (fin 0 y0 y1 y2 (by omega) h1 h2 _ rfl)
    refine Finset.sum_congr rfl fun x _ => ?_
    rw [show (k0_pay14 (k0_pay32 x0 x1) (k0_pay34 x0 x1) (k0_pay29 x0 x1) (k0_pay30 x0 x1) (ix2 x 0)) = _ from pay37_apply hp x 0,
      show (k0_pay15 (k0_pay33 x0 x1) (k0_pay34 x0 x1) (k0_pay35 x0 x1) (k0_pay29 x0 x1) (k0_pay30 x0 x1) (ix2 x 0)) = _ from pay38_apply hp x 0]
    done

/-- The combine weights: row `c` of expert `e` gives a token the probability with which it was placed there. -/
theorem out0_3_apply (s : Fin 512) (e : Fin 8) (c : Fin 160) :
    out0_3 (F := Ideal) x0 x1 (ix3 0 s ⟨e.val * 160 + c.val, by omega⟩)
      = gate (fun s => blockProb x0 x1 s (a s)) (fun s => strike (blockProb x0 x1 s) (a s) (b s)) a b s e c := by
  unfold out0_3
  rw [View.canon_cons_unit_lit _ _ _ (by decide), ld0, ld1]
  pointwise [k0_pay2]
  simp only [pay37_apply hp, pay38_apply hp, pay5_apply hp, pay8_apply hp, comb_mask, Ideal.ofBits_zero_f32]
  rw [select_ofBool, select_ofBool]
  rfl

end Block

end Cert.KernelIdeal.Hand
-- ==== Proof.Layer.lean ====
/- The layer as plain mathematics on the extended reals, in terms of the grouped tokens `X`, the router weights `w`, and the
   experts' weights `u`, `v`, `o`: what both programs are shown to compute. -/
module

public import proofs.«01_k».proof.Proof.Route

@[expose] public section

namespace Cert.Moe

open Idealize.ShloMosaic
open scoped BigOperators

variable (X : Fin 4 → Fin 512 → Fin 2048 → EReal) (w : Fin 2048 → Fin 8 → EReal)
  (u v : Fin 8 → Fin 2048 → Fin 4096 → EReal) (o : Fin 8 → Fin 4096 → Fin 2048 → EReal)

/-- The routing probabilities of a group's tokens. -/
noncomputable def prob (g : Fin 4) (s : Fin 512) : Fin 8 → EReal := soft (logit (X g s) w)

/-- The tokens of group `g` gathered at place `c` of expert `e`'s queue. -/
noncomputable def gathered (g : Fin 4) (e : Fin 8) (c : Fin 160) (d : Fin 2048) : EReal :=
  ∑ s, takes (fst (prob X w g)) (snd (prob X w g)) s e c * X g s d

/-- The weight with which a token reads place `c` of expert `e`'s queue back. -/
noncomputable def weight (g : Fin 4) (s : Fin 512) (e : Fin 8) (c : Fin 160) : EReal :=
  gate (fun s => prob X w g s (fst (prob X w g) s)) (fun s => strike (prob X w g s) (fst (prob X w g) s) (snd (prob X w g) s))
    (fst (prob X w g)) (snd (prob X w g)) s e c

/-- One row of an expert's gated hidden layer. -/
noncomputable def hidden (x : Fin 2048 → EReal) (e : Fin 8) (f : Fin 4096) : EReal :=
  (∑ d, x d * u e d f) * Ideal.logistic (∑ d, x d * u e d f) * ∑ d, x d * v e d f

/-- One row of an expert's output. -/
noncomputable def expert (x : Fin 2048 → EReal) (e : Fin 8) (d : Fin 2048) : EReal := ∑ f, hidden u v x e f * o e f d

/-- The layer's result for a token of a group. -/
noncomputable def layer (g : Fin 4) (s : Fin 512) (d : Fin 2048) : EReal :=
  ∑ e, ∑ c, weight X w g s e c * expert u v o (gathered X w g e c) e d

end Cert.Moe
-- ==== Proof.RouterArr.lean ====
/- The routing call's two result arrays, read at an index. -/
module

public import proofs.«01_k».proof.Proof.RouterOut
public import proofs.«01_k».proof.Proof.Layer
public import Idealize.ShloMosaic.Lib.Pipeline.ValueKit

@[expose] public section

set_option maxRecDepth 16384

namespace Cert.KernelIdeal.Hand

open Cert.KernelIdeal Cert.KernelIdeal.Gen Idealize.ShloMosaic Idealize.ShloMosaic.TcCoe Cert.Moe
open scoped BigOperators

/-- A point of the routing grid as a group of tokens. -/
abbrev grp0 (t : Fin cfg0.N) : Fin 4 := ⟨t.val, lt_of_lt_of_eq t.isLt (by decide)⟩

theorem idx0 : ∀ t : Fin cfg0.N, win0_0.index t = ![t.val, 0, 0] ∧ win0_1.index t = ![0, 0] ∧ win0_2.index t = ![0, t.val, 0]
    ∧ win0_3.index t = ![t.val, 0, 0] := (by decide +kernel : ∀ t : Fin grid0.N, _)

section
variable (V : (c : Dev nD) → (b : Ref sig .tc) → Buf (Elt Ideal) ((c : Thread nD τ).loc b)) (c : Dev nD)
  (X : Fin 4 → Fin 512 → Fin 2048 → EReal) (w : Fin 2048 → Fin 8 → EReal)
  (hX : ∀ g s d, (V c main_call0_v0 : Vec Ideal S4x512x2048 .f32) (ix3 g s d) = X g s d)
  (hw : ∀ d e, (V c main_arg1 : Vec Ideal S2048x8 .f32) (ix2 d e) = w d e)
include hX

theorem iblk0_0_apply (t : Fin cfg0.N) (s : Fin 512) (d : Fin 2048) :
    (iblk0 V c 0 t : Vec Ideal S1x512x2048 .f32) (ix3 0 s d) = X (grp0 t) s d := by
  rw [← hX]
  blk_ext! [iblk0, (idx0 t).1]

include hw
theorem blockProb0 (t : Fin cfg0.N) (s : Fin 512) : blockProb (iblk0 V c 0 t) (iblk0 V c 1 t) s = prob X w (grp0 t) s := by
  have h1 : ∀ d e, (iblk0 V c 1 t : Vec Ideal S2048x8 .f32) (ix2 d e) = w d e := fun d e => by
    rw [← hw]
    blk_ext! [iblk0, (idx0 t).2.1]
  unfold blockProb prob
  congr 2
  · exact funext fun d => iblk0_0_apply V c X hX t s d
  · exact funext fun d => funext fun e => h1 d e

/-- The array of gathered tokens: rows `g * 160 + c` of expert `e` hold group `g`'s places. -/
theorem arr0_2 (e : Fin 8) (g : Fin 4) (k : Fin 160) (d : Fin 2048) :
    ((dat0 V c).arrAt 2 cfg0.N : Vec Ideal S8x640x2048 .bf16) (ix3 e ⟨g.val * 160 + k.val, by omega⟩ d) = gathered X w g e k d := by
  refine (dat0 V c).arrAt_forall_of_covers 2 (fun i x => ∀ (e : Fin 8) (g : Fin 4) (k : Fin 160) (d : Fin 2048),
    (i : S8x640x2048.Idx) = ix3 e ⟨g.val * 160 + k.val, by omega⟩ d → x = gathered X w g e k d) (by decide +kernel) (fun t hf y => ?_) _ (Memref.isWhole_whole _) e g k d rfl
  intro e g k d hi
  blk_simp
  rw [after0_2]
  have h0 := congrArg (fun i : S8x640x2048.Idx => (i 0).val) hi
  have h1 := congrArg (fun i : S8x640x2048.Idx => (i 1).val) hi
  have h2 := congrArg (fun i : S8x640x2048.Idx => (i 2).val) hi
  blk_simp [(idx0 t).2.2.1] at h0 h1 h2
  idx_vars y
  obtain rfl : y0 = e := Fin.ext h0
  have hy : y1.val < 160 := y1.isLt
  obtain rfl : y1 = k := Fin.ext (by omega)
  obtain rfl : y2 = d := Fin.ext h2
  obtain rfl : grp0 t = g := Fin.ext (by show t.val = g.val; omega)
  refine (out0_2_apply (a := fst (prob X w (grp0 t))) (b := snd (prob X w (grp0 t))) (fun s => ?_) y0 y1 y2).trans ?_
  · rw [blockProb0 V c X w hX hw t s]
    exact picks (prob X w (grp0 t)) s
  · simp only [iblk0_0_apply V c X hX t]
    rfl

/-- The array of combine weights: column `e * 160 + k` of a token's row is its weight for place `k` of expert `e`. -/
theorem arr0_3 (g : Fin 4) (s : Fin 512) (e : Fin 8) (k : Fin 160) :
    ((dat0 V c).arrAt 3 cfg0.N : Vec Ideal S4x512x1280 .bf16) (ix3 g s ⟨e.val * 160 + k.val, by omega⟩) = weight X w g s e k := by
  refine (dat0 V c).arrAt_forall_of_covers 3 (fun i x => ∀ (g : Fin 4) (s : Fin 512) (e : Fin 8) (k : Fin 160),
    (i : S4x512x1280.Idx) = ix3 g s ⟨e.val * 160 + k.val, by omega⟩ → x = weight X w g s e k) (by decide +kernel) (fun t hf y => ?_) _ (Memref.isWhole_whole _) g s e k rfl
  intro g s e k hi
  have hlt : e.val * 160 + k.val < 1280 := by omega
  blk_simp
  rw [after0_3]
  have h0 := congrArg (fun i : S4x512x1280.Idx => (i 0).val) hi
  have h1 := congrArg (fun i : S4x512x1280.Idx => (i 1).val) hi
  have h2 := congrArg (fun i : S4x512x1280.Idx => (i 2).val) hi
  blk_simp [(idx0 t).2.2.2] at h0 h1 h2
  idx_vars y
  obtain rfl : y0 = 0 := Subsingleton.elim _ _
  obtain rfl : y1 = s := Fin.ext h1
  obtain rfl : y2 = ⟨e.val * 160 + k.val, hlt⟩ := Fin.ext h2
  obtain rfl : grp0 t = g := Fin.ext (by show t.val = g.val; simpa using h0)
  refine (out0_3_apply (a := fst (prob X w (grp0 t))) (b := snd (prob X w (grp0 t))) (fun s => ?_) y1 e k).trans ?_
  · rw [blockProb0 V c X w hX hw t s]
    exact picks (prob X w (grp0 t)) s
  · simp only [blockProb0 V c X w hX hw t]
    rfl

end

end Cert.KernelIdeal.Hand
-- ==== Proof.FfnArr.lean ====
/- The feed-forward call's result array, read at an index: eight blocks of the hidden axis accumulated into the whole sum. -/
module

public import proofs.«01_k».proof.Proof.Ffn
public import proofs.«01_k».proof.Proof.Layer
public import Idealize.ShloMosaic.Lib.Pipeline.ValueKit

@[expose] public section

set_option maxRecDepth 16384

namespace Cert.KernelIdeal.Hand

open Cert.KernelIdeal Cert.KernelIdeal.Gen Idealize.ShloMosaic Idealize.ShloMosaic.TcCoe Cert.Moe
open scoped BigOperators

/-- The expert of a point of the feed-forward grid. -/
abbrev exp1 (t : Fin cfg1.N) : Fin 8 := ⟨t.val / 8, by have h : t.val < 64 := lt_of_lt_of_eq t.isLt (by decide); omega⟩

theorem idx1 : ∀ t : Fin cfg1.N, win1_0.index t = ![t.val / 8, 0, 0] ∧ win1_1.index t = ![t.val / 8, 0, t.val % 8]
    ∧ win1_2.index t = ![t.val / 8, 0, t.val % 8] ∧ win1_3.index t = ![t.val / 8, t.val % 8, 0] ∧ win1_4.index t = ![0, t.val / 8, 0, 0] :=
  (by decide +kernel : ∀ t : Fin grid1.N, _)

theorem pay1_1_apply (x0 : Vec Ideal S1x640x2048 .bf16) (x1 x2 : Vec Ideal S1x2048x512 .f32) (x3 : Vec Ideal S1x512x2048 .f32)
    (r : Fin 640) (d : Fin 2048) :
    k1_pay1 (F := Ideal) x0 x1 x2 x3 (ix2 r d)
      = ∑ j : Fin 512, (∑ i, x0 (ix3 0 r i) * x1 (ix3 0 i j)) * Ideal.logistic (∑ i, x0 (ix3 0 r i) * x1 (ix3 0 i j))
          * (∑ i, x0 (ix3 0 r i) * x2 (ix3 0 i j)) * x3 (ix3 0 j d) := by
  pointwise [k1_pay1]
  try rfl

theorem pay1_2_apply (x0 : Vec Ideal S1x640x2048 .bf16) (x1 x2 : Vec Ideal S1x2048x512 .f32) (x3 : Vec Ideal S1x512x2048 .f32)
    (i : S640x2048.Idx) : k1_pay2 (F := Ideal) x0 x1 x2 x3 i = k1_pay1 (F := Ideal) x0 x1 x2 x3 i := by
  idx_vars i
  pointwise [k1_pay2]

theorem pay1_3_apply (x0 : Vec Ideal S1x640x2048 .bf16) (x1 x2 : Vec Ideal S1x2048x512 .f32) (x3 : Vec Ideal S1x512x2048 .f32)
    (a : Vec Ideal S640x2048 .f32) (i : S640x2048.Idx) :
    k1_pay3 (F := Ideal) x0 x1 x2 x3 a i = a i + k1_pay1 (F := Ideal) x0 x1 x2 x3 i := by
  idx_vars i
  pointwise [k1_pay3]

theorem pay1_4_apply (a : Vec Ideal S640x2048 .f32) (g : Fin 4) (z : Fin 1) (k : Fin 160) (d : Fin 2048) :
    k1_pay4 (F := Ideal) a (ix4 g z k d) = a (ix2 ⟨g.val * 160 + k.val, by omega⟩ d) := by
  pointwise [k1_pay4]

section
variable (V : (c : Dev nD) → (b : Ref sig .tc) → Buf (Elt Ideal) ((c : Thread nD τ).loc b)) (c : Dev nD)

/-- What one point adds. -/
noncomputable def term1 (t : Fin cfg1.N) : FVec Ideal S640x2048 .f32 :=
  k1_pay1 (F := Ideal) (iblk1 V c 0 t) (iblk1 V c 1 t) (iblk1 V c 2 t) (iblk1 V c 3 t)

/-- At an expert's last point the accumulator holds the sum over its eight points. -/
theorem acc1_last (t : Fin cfg1.N) (ht : t.val % 8 = 7) (i : S640x2048.Idx) :
    (acc1 V c t.val t.isLt : Vec Ideal S640x2048 .f32) i
      = ∑ s : Fin 8, term1 V c ⟨8 * (t.val / 8) + s.val, Pipeline.run_point_lt_of_flush t ht s⟩ i := by
  have h := Pipeline.eq_sum_fin_of_reset_step_of_flush (M := EReal) (fun n hn => (acc1 V c n hn : Vec Ideal S640x2048 .f32) i) 8 0
    (fun t => term1 V c t i)
    (fun t h => by
      rw [acc1_first V c t h, zero_add]
      exact pay1_2_apply _ _ _ _ i)
    (fun t h => by
      rw [acc1_next V c t h]
      exact pay1_3_apply _ _ _ _ _ i) t ht
  rw [h, zero_add]

variable (E : Fin 4 → Fin 8 → Fin 160 → Fin 2048 → EReal) (u v : Fin 8 → Fin 2048 → Fin 4096 → EReal) (o : Fin 8 → Fin 4096 → Fin 2048 → EReal)
  (hE : ∀ e g (k : Fin 160) d, (V c main_call0_v1_0 : Vec Ideal S8x640x2048 .bf16) (ix3 e ⟨g.val * 160 + k.val, by omega⟩ d) = E g e k d)
  (hu : ∀ e d f, (V c main_arg2 : Vec Ideal S8x2048x4096 .f32) (ix3 e d f) = u e d f)
  (hv : ∀ e d f, (V c main_arg3 : Vec Ideal S8x2048x4096 .f32) (ix3 e d f) = v e d f)
  (ho : ∀ e f d, (V c main_arg4 : Vec Ideal S8x4096x2048 .f32) (ix3 e f d) = o e f d)
include hE hu hv ho

theorem term1_apply (t : Fin cfg1.N) (g : Fin 4) (k : Fin 160) (d : Fin 2048) :
    term1 V c t (ix2 ⟨g.val * 160 + k.val, by omega⟩ d)
      = ∑ j : Fin 512, hidden u v (E g (exp1 t) k) (exp1 t) ⟨t.val % 8 * 512 + j.val, by omega⟩ * o (exp1 t) ⟨t.val % 8 * 512 + j.val, by omega⟩ d := by
  unfold term1 Cert.Moe.hidden
  rw [pay1_1_apply]
  simp only [← hE, ← hu, ← hv, ← ho]
  blk_point [iblk1, (idx1 t).1, (idx1 t).2.1, (idx1 t).2.2.1, (idx1 t).2.2.2.1]

/-- The experts' outputs. -/
theorem arr1_4 (g : Fin 4) (e : Fin 8) (k : Fin 160) (d : Fin 2048) :
    ((dat1 V c).arrAt 4 cfg1.N : Vec Ideal S4x8x160x2048 .bf16) (ix4 g e k d) = expert u v o (E g e k) e d := by
  refine (dat1 V c).arrAt_forall_of_covers 4 (fun i x => ∀ (g : Fin 4) (e : Fin 8) (k : Fin 160) (d : Fin 2048),
    (i : S4x8x160x2048.Idx) = ix4 g e k d → x = expert u v o (E g e k) e d) (by decide +kernel) (fun t hf y => ?_) _ (Memref.isWhole_whole _) g e k d rfl
  intro g e k d hi
  have ht : t.val % 8 = 7 := by
    by_contra h
    rw [noFlush1_4 t h] at hf
    exact Bool.false_ne_true hf
  blk_simp
  rw [after1_4]
  have h0 := congrArg (fun i : S4x8x160x2048.Idx => (i 0).val) hi
  have h1 := congrArg (fun i : S4x8x160x2048.Idx => (i 1).val) hi
  have h2 := congrArg (fun i : S4x8x160x2048.Idx => (i 2).val) hi
  have h3 := congrArg (fun i : S4x8x160x2048.Idx => (i 3).val) hi
  blk_simp [(idx1 t).2.2.2.2] at h0 h1 h2 h3
  idx_vars y
  obtain rfl : y0 = g := Fin.ext h0
  obtain rfl : y2 = k := Fin.ext h2
  obtain rfl : y3 = d := Fin.ext h3
  have hy : y1.val < 1 := y1.isLt
  obtain rfl : exp1 t = e := Fin.ext (by show t.val / 8 = e.val; omega)
  refine (pay1_4_apply _ y0 y1 y2 y3).trans ((acc1_last V c t ht _).trans ?_)
  simp only [term1_apply V c E u v o hE hu hv ho]
  unfold expert
  refine Fin.sum_mul_add_congr fun s j hl => ?_
  have hs := s.isLt
  have e1 : exp1 ⟨8 * (t.val / 8) + s.val, Pipeline.run_point_lt_of_flush t ht s⟩ = exp1 t :=
    Fin.ext (by show (8 * (t.val / 8) + s.val) / 8 = t.val / 8; omega)
  have e2 : (8 * (t.val / 8) + s.val) % 8 = s.val := by omega
  simp only [e1, e2]

end

end Cert.KernelIdeal.Hand
-- ==== Proof.CombineArr.lean ====
/- The combining call's result array, read at an index. -/
module

public import proofs.«01_k».proof.Proof.Combine
public import proofs.«01_k».proof.Proof.Layer
public import Idealize.ShloMosaic.Lib.Pipeline.ValueKit

@[expose] public section

set_option maxRecDepth 16384

namespace Cert.KernelIdeal.Hand

open Cert.KernelIdeal Cert.KernelIdeal.Gen Idealize.ShloMosaic Idealize.ShloMosaic.TcCoe Cert.Moe
open scoped BigOperators

/-- A point of the combining grid as a group of tokens. -/
abbrev grp2 (t : Fin cfg2.N) : Fin 4 := ⟨t.val, lt_of_lt_of_eq t.isLt (by decide)⟩

theorem idx2 : ∀ t : Fin cfg2.N, win2_0.index t = ![t.val, 0, 0] ∧ win2_1.index t = ![t.val, 0, 0, 0] ∧ win2_2.index t = ![t.val, 0, 0] :=
  (by decide +kernel : ∀ t : Fin grid2.N, _)

/-- A sum over the rows of the flattened queues is a sum over experts and places. -/
theorem sum_rows (f : Fin 1280 → EReal) : ∑ r, f r = ∑ e : Fin 8, ∑ k : Fin 160, f ⟨e.val * 160 + k.val, by omega⟩ := by
  rw [← Fintype.sum_prod_type']
  refine (Fintype.sum_equiv (finProdFinEquiv (m := 8) (n := 160)) _ _ fun p => ?_).symm
  congr 1
  ext
  simp [finProdFinEquiv]
  ring

/-- The combining body at an index: over every expert and place, the weight times the expert's output. -/
theorem pay2_1_apply (x1 : Vec Ideal S1x8x160x2048 .bf16) (x0 : Vec Ideal S1x512x1280 .bf16) (z : Fin 1) (s : Fin 512) (d : Fin 2048) :
    k2_pay1 (F := Ideal) x1 x0 (ix3 z s d)
      = ∑ e : Fin 8, ∑ k : Fin 160, x0 (ix3 0 s ⟨e.val * 160 + k.val, by omega⟩) * x1 (ix4 0 e k d) := by
  pointwise [k2_pay1]
  rw [sum_rows]
  refine Finset.sum_congr rfl fun e _ => Finset.sum_congr rfl fun k _ => ?_
  have h1 : (e.val * 160 + k.val) / 160 = e.val := by omega
  have h2 : (e.val * 160 + k.val) % 160 = k.val := by omega
  simp only [h1, h2, Fin.eta]

section
variable (V : (c : Dev nD) → (b : Ref sig .tc) → Buf (Elt Ideal) ((c : Thread nD τ).loc b)) (c : Dev nD)
  (C : Fin 4 → Fin 512 → Fin 8 → Fin 160 → EReal) (Y : Fin 4 → Fin 8 → Fin 160 → Fin 2048 → EReal)
  (hC : ∀ g s e (k : Fin 160), (V c main_call0_v1_1 : Vec Ideal S4x512x1280 .bf16) (ix3 g s ⟨e.val * 160 + k.val, by omega⟩) = C g s e k)
  (hY : ∀ g e k d, (V c main_call0_v2 : Vec Ideal S4x8x160x2048 .bf16) (ix4 g e k d) = Y g e k d)
include hC hY

/-- The combined array: over every expert and place, the weight times the expert's output. -/
theorem arr2_2 (g : Fin 4) (s : Fin 512) (d : Fin 2048) :
    ((dat2 V c).arrAt 2 cfg2.N : Vec Ideal S4x512x2048 .f32) (ix3 g s d) = ∑ e, ∑ k, C g s e k * Y g e k d := by
  refine (dat2 V c).arrAt_forall_of_covers 2 (fun i x => ∀ (g : Fin 4) (s : Fin 512) (d : Fin 2048),
    (i : S4x512x2048.Idx) = ix3 g s d → x = ∑ e, ∑ k, C g s e k * Y g e k d) (by decide +kernel) (fun t hf y => ?_) _ (Memref.isWhole_whole _) g s d rfl
  intro g s d hi
  blk_simp
  rw [after2_2]
  have h0 := congrArg (fun i : S4x512x2048.Idx => (i 0).val) hi
  have h1 := congrArg (fun i : S4x512x2048.Idx => (i 1).val) hi
  have h2 := congrArg (fun i : S4x512x2048.Idx => (i 2).val) hi
  blk_simp [(idx2 t).2.2] at h0 h1 h2
  idx_vars y
  obtain rfl : y1 = s := Fin.ext h1
  obtain rfl : y2 = d := Fin.ext h2
  have hy : y0.val < 1 := y0.isLt
  obtain rfl : grp2 t = g := Fin.ext (by show t.val = g.val; omega)
  unfold out2_2
  rw [View.canon_cons_unit_lit _ _ _ (by decide), View.ld_unit_lit _ _ (by decide), View.ld_unit_lit _ _ (by decide)]
  refine (pay2_1_apply _ _ y0 y1 y2).trans ?_
  refine Finset.sum_congr rfl fun e _ => Finset.sum_congr rfl fun k _ => ?_
  rw [← hC, ← hY]
  congr 1
  · blk_ext! [iblk2, (idx2 t).1]
  · blk_ext! [iblk2, (idx2 t).2.1]

end

end Cert.KernelIdeal.Hand
-- ==== Proof.KernelValue.lean ====
/- The kernel's result, read at an index: the layer of its five arguments. -/
module

public import proofs.«01_k».proof.Proof.Run
public import proofs.«01_k».proof.Proof.RouterArr
public import proofs.«01_k».proof.Proof.FfnArr
public import proofs.«01_k».proof.Proof.CombineArr

@[expose] public section

set_option maxRecDepth 16384

namespace Cert.KernelIdeal.Hand

open Cert.KernelIdeal Cert.KernelIdeal.Gen Idealize.ShloMosaic Idealize.ShloMosaic.TcCoe Cert.Moe
open scoped BigOperators

theorem regroup_apply (x : Vec Ideal S1x2048x2048 .f32) (h : S1x2048x2048.ShapeCasts S4x512x2048) (g : Fin 4) (s : Fin 512) (d : Fin 2048) :
    shapeCast S4x512x2048 x h (ix3 g s d) = x (ix3 0 ⟨g.val * 512 + s.val, by omega⟩ d) := by
  pointwise
theorem ungroup_apply (x : Vec Ideal S4x512x2048 .f32) (h : S4x512x2048.ShapeCasts S1x2048x2048) (z : Fin 1) (n : Fin 2048) (d : Fin 2048) :
    shapeCast S1x2048x2048 x h (ix3 z n d) = x (ix3 ⟨n.val / 512, by omega⟩ ⟨n.val % 512, by omega⟩ d) := by
  pointwise

variable (m : (ℓ : Loc nD τ sig) → Buf (Elt Ideal) ℓ) (c : Dev nD)

/-- The tokens in their groups. -/
noncomputable abbrev tok (g : Fin 4) (s : Fin 512) (d : Fin 2048) : EReal :=
  (m ((c : Thread nD τ).loc main_arg0) : Vec Ideal S1x2048x2048 .f32) (ix3 0 ⟨g.val * 512 + s.val, by omega⟩ d)
/-- The router's weights. -/
noncomputable abbrev wr (d : Fin 2048) (e : Fin 8) : EReal := (m ((c : Thread nD τ).loc main_arg1) : Vec Ideal S2048x8 .f32) (ix2 d e)
/-- The experts' first input weights. -/
noncomputable abbrev wu (e : Fin 8) (d : Fin 2048) (f : Fin 4096) : EReal := (m ((c : Thread nD τ).loc main_arg2) : Vec Ideal S8x2048x4096 .f32) (ix3 e d f)
/-- The experts' second input weights. -/
noncomputable abbrev wv (e : Fin 8) (d : Fin 2048) (f : Fin 4096) : EReal := (m ((c : Thread nD τ).loc main_arg3) : Vec Ideal S8x2048x4096 .f32) (ix3 e d f)
/-- The experts' output weights. -/
noncomputable abbrev wo (e : Fin 8) (f : Fin 4096) (d : Fin 2048) : EReal := (m ((c : Thread nD τ).loc main_arg4) : Vec Ideal S8x4096x2048 .f32) (ix3 e f d)

theorem W1_tok (g : Fin 4) (s : Fin 512) (d : Fin 2048) :
    (readTc (W1 m) c main_call0_v0 : Vec Ideal S4x512x2048 .f32) (ix3 g s d) = tok m c g s d := by
  have h : (readTc (W1 m) c main_call0_v0 : Vec Ideal S4x512x2048 .f32)
      = shapeCast S4x512x2048 (m ((c : Thread nD τ).loc main_arg0) : Vec Ideal S1x2048x2048 .f32) shapeCasts_S1x2048x2048_S4x512x2048 := by
    show StableHlo.after hostOps0 (W0 m c) (Proc.devRef .tc main_call0_v0) = _
    simp only [StableHlo.after_cons, StableHlo.after_nil]
    after_results_simp
    rfl
  rw [h]
  exact regroup_apply _ _ g s d

theorem W1_arg (a : Ref sig .tc) (ha : a ∈ argRefs) : readTc (W1 m) c a = m ((c : Thread nD τ).loc a) := W1_of m c a (args0 a ha)
theorem W2_arg (a : Ref sig .tc) (ha : a ∈ argRefs) : readTc (W2 m) c a = m ((c : Thread nD τ).loc a) := W2_args m c a ha

/-- The gathered tokens the feed-forward call finds. -/
theorem W2_xe (e : Fin 8) (g : Fin 4) (k : Fin 160) (d : Fin 2048) :
    (readTc (W2 m) c main_call0_v1_0 : Vec Ideal S8x640x2048 .bf16) (ix3 e ⟨g.val * 160 + k.val, by omega⟩ d)
      = gathered (tok m c) (wr m c) g e k d := by
  have h : readTc (W2 m) c main_call0_v1_0 = (dat0 (readTc (W1 m)) c).arrAt 2 cfg0.N := leave_arr 0 launch0 _ _ c 2
  rw [h]
  exact arr0_2 (readTc (W1 m)) c _ _ (W1_tok m c) (fun d e => by rw [W1_arg m c main_arg1 (by decide)]) e g k d

/-- The combine weights the combining call finds. -/
theorem W3_comb (g : Fin 4) (s : Fin 512) (e : Fin 8) (k : Fin 160) :
    (readTc (W3 m) c main_call0_v1_1 : Vec Ideal S4x512x1280 .bf16) (ix3 g s ⟨e.val * 160 + k.val, by omega⟩)
      = weight (tok m c) (wr m c) g s e k := by
  have h : readTc (W3 m) c main_call0_v1_1 = (dat0 (readTc (W1 m)) c).arrAt 3 cfg0.N :=
    (W3_of m c main_call0_v1_1 (by decide +kernel)).trans (leave_arr 0 launch0 _ _ c 3)
  rw [h]
  exact arr0_3 (readTc (W1 m)) c _ _ (W1_tok m c) (fun d e => by rw [W1_arg m c main_arg1 (by decide)]) g s e k

/-- The experts' outputs the combining call finds. -/
theorem W3_oe (g : Fin 4) (e : Fin 8) (k : Fin 160) (d : Fin 2048) :
    (readTc (W3 m) c main_call0_v2 : Vec Ideal S4x8x160x2048 .bf16) (ix4 g e k d)
      = expert (wu m c) (wv m c) (wo m c) (gathered (tok m c) (wr m c) g e k) e d := by
  have h : readTc (W3 m) c main_call0_v2 = (dat1 (readTc (W2 m)) c).arrAt 4 cfg1.N := leave_arr 1 launch1 _ _ c 4
  rw [h]
  exact arr1_4 (readTc (W2 m)) c (gathered (tok m c) (wr m c)) _ _ _ (W2_xe m c) (fun e d f => by rw [W2_arg m c main_arg2 (by decide)])
    (fun e d f => by rw [W2_arg m c main_arg3 (by decide)]) (fun e f d => by rw [W2_arg m c main_arg4 (by decide)]) g e k d

/-- The kernel's result. -/
theorem kernel_value (z : Fin 1) (n : Fin 2048) (d : Fin 2048) :
    (W5 m c (Proc.devRef .tc main_v0) : Vec Ideal S1x2048x2048 .f32) (ix3 z n d)
      = layer (tok m c) (wr m c) (wu m c) (wv m c) (wo m c) ⟨n.val / 512, by omega⟩ ⟨n.val % 512, by omega⟩ d := by
  have h : (W5 m c (Proc.devRef .tc main_v0) : Vec Ideal S1x2048x2048 .f32)
      = shapeCast S1x2048x2048 (W4 m c (Proc.devRef .tc main_call0_v3) : Vec Ideal S4x512x2048 .f32) shapeCasts_S4x512x2048_S1x2048x2048 := by
    show StableHlo.after hostOps3 (W4 m c) (Proc.devRef .tc main_v0) = _
    simp only [StableHlo.after_cons, StableHlo.after_nil]
    after_results_simp
    rfl
  have h' : W4 m c (Proc.devRef .tc main_call0_v3) = (dat2 (readTc (W3 m)) c).arrAt 2 cfg2.N := leave_arr 2 launch2 _ _ c 2
  have key := arr2_2 (readTc (W3 m)) c _ _ (W3_comb m c) (W3_oe m c)
  rw [h, h']
  exact (ungroup_apply _ _ z n d).trans (key ⟨n.val / 512, by omega⟩ ⟨n.val % 512, by omega⟩ d)

end Cert.KernelIdeal.Hand
-- ==== Proof.RefTerm.lean ====
/- The reference's result, cut into the stages the layer is made of. -/
module

public import proofs.«01_k».proof.Proof.Gen.ReferenceIdeal.Run
public import proofs.«01_k».proof.Proof.Layer
public import Idealize.ShloMosaic.Lib.Pipeline.ValueKit

@[expose] public section

noncomputable section

namespace Cert.ReferenceIdeal.Hand

open Cert.ReferenceIdeal Cert.ReferenceIdeal.Gen Idealize.ShloMosaic Idealize.ShloMosaic.TcCoe

abbrev T (S : Shape) : Type := FVec Ideal S .f32

/-- The tokens in their groups. -/
def groups (x : T S1x2048x2048) : T S4x512x2048 := shapeCast _ x shapeCasts_S1x2048x2048_S4x512x2048

/-- The router's logits. -/
def logits (x : T S4x512x2048) (w : T S2048x8) : T S4x512x8 :=
  Host.dotGeneral dot_S4x512x2048_S2048x8_S4x512x8_2_0_01_1_n_n none x w

/-- The exponentials of the logits less each token's largest. -/
def exps (l : T S4x512x8) : T S4x512x8 :=
  Host.exp (subf l (broadcastInDim S4x512x8 ![0, 1, 2] bcast_S4x512x1_S4x512x8_0_1_2 (broadcastInDim S4x512x1 ![0, 1] bcast_S4x512_S4x512x1_0_1
    (maximumf (broadcastInDim S4x512 ![] bcast_S_S4x512 (constant S_ .f32 0xFF800000#32))
      (Host.reduce FloatOps.maximumf l (constant S_ .f32 0xFF800000#32) reducesTo_S4x512x8_S4x512_d2 h_S_)))))

/-- Each token's exponentials over their sum. -/
def probs (z : T S4x512x8) : T S4x512x8 :=
  Host.divf z (broadcastInDim S4x512x8 ![0, 1, 2] bcast_S4x512x1_S4x512x8_0_1_2 (broadcastInDim S4x512x1 ![0, 1] bcast_S4x512_S4x512x1_0_1
    (Host.reduceAdd z (constant S_ .f32 0x00000000#32) reducesTo_S4x512x8_S4x512_d2 h_S_)))

/-- The two largest probabilities of each token. -/
def topVal (p : T S4x512x8) : T S4x512x2 := (Host.topK S4x512x2 2 (FloatOps.cmpfTotal .gt) p sliceFits_S4x512x8_S4x512x2).1

/-- The experts they belong to. -/
def topIdx (p : T S4x512x8) : IVec S4x512x2 32 := (Host.topK S4x512x2 2 (FloatOps.cmpfTotal .gt) p sliceFits_S4x512x8_S4x512x2).2

/-- One row per choice, first choices first: 1 at the expert chosen. -/
def mask (i : IVec S4x512x2 32) : T S4x1024x8 :=
  shapeCast _ (transpose S4x2x512x8 [0, 2, 1, 3] (uitofp .f32 (cmpi .eq
    (broadcastInDim S4x512x2x8 ![0, 1, 2, 3] bcast_S4x512x2x1_S4x512x2x8_0_1_2_3 (broadcastInDim S4x512x2x1 ![0, 1, 2] bcast_S4x512x2_S4x512x2x1_0_1_2 i))
    (broadcastInDim S4x512x2x8 ![0, 1, 2, 3] bcast_S1x1x1x8_S4x512x2x8_0_1_2_3 (iotaInDim S1x1x1x8 32 3))) : T S4x512x2x8)
    transposes_S4x512x2x8_S4x2x512x8_0_2_1_3) shapeCasts_S4x2x512x8_S4x1024x8

/-- How often each expert has been chosen, up to each row. -/
def counts (k : T S4x1024x8) : T S4x1024x8 :=
  Host.reduceWindowAdd ![1, 1024, 1] ![1, 1, 1] ![0, 1023, 0] ![0, 0, 0] k (broadcastInDim S_ ![] bcast_S_S_ (constant S_ .f32 0x00000000#32))
    reduceWindows_S4x1024x8_S4x1024x8_w1s1p0_0_w1024s1p1023_0_w1s1p0_0 h_S_

/-- The place of each row in its expert's queue. -/
def queue (n : T S4x1024x8) : T S4x1024x8 := subf n (broadcastInDim S4x1024x8 ![] bcast_S_S4x1024x8 (constant S_ .f32 0x3F800000#32))

/-- 1 at the expert and the place of each row that keeps one. -/
def placed (k q : T S4x1024x8) : T S4x2x512x8x160 :=
  shapeCast _ (mulf (uitofp .f32 (cmpi .eq
      (broadcastInDim S4x1024x8x160 ![0, 1, 2, 3] bcast_S4x1024x8x1_S4x1024x8x160_0_1_2_3 (broadcastInDim S4x1024x8x1 ![0, 1, 2] bcast_S4x1024x8_S4x1024x8x1_0_1_2
        (fptosi 32 q : IVec S4x1024x8 32)))
      (broadcastInDim S4x1024x8x160 ![0, 1, 2, 3] bcast_S1x1x1x160_S4x1024x8x160_0_1_2_3 (iotaInDim S1x1x1x160 32 3))))
    (broadcastInDim S4x1024x8x160 ![0, 1, 2, 3] bcast_S4x1024x8x1_S4x1024x8x160_0_1_2_3 (broadcastInDim S4x1024x8x1 ![0, 1, 2] bcast_S4x1024x8_S4x1024x8x1_0_1_2
      (mulf (uitofp .f32 (cmpf .olt q (broadcastInDim S4x1024x8 ![] bcast_S_S4x1024x8 (constant S_ .f32 0x43200000#32)))) k))) : T S4x1024x8x160)
    shapeCasts_S4x1024x8x160_S4x2x512x8x160

/-- The places of both choices of each token. -/
def dispatch (p : T S4x2x512x8x160) : T S4x512x8x160 :=
  Host.reduceAdd p (constant S_ .f32 0x00000000#32) reducesTo_S4x2x512x8x160_S4x512x8x160_d1 h_S_

/-- The places of both choices of each token, weighted by their probabilities. -/
def combine (v : T S4x512x2) (p : T S4x2x512x8x160) : T S4x512x8x160 :=
  Host.reduceAdd (mulf (broadcastInDim S4x2x512x8x160 ![0, 1, 2, 3, 4] bcast_S4x2x512x1x1_S4x2x512x8x160_0_1_2_3_4
    (broadcastInDim S4x2x512x1x1 ![0, 1, 2] bcast_S4x2x512_S4x2x512x1x1_0_1_2 (transpose S4x2x512 [0, 2, 1] v transposes_S4x512x2_S4x2x512_0_2_1))) p)
    (constant S_ .f32 0x00000000#32) reducesTo_S4x2x512x8x160_S4x512x8x160_d1 h_S_

/-- The tokens each expert reads. -/
def gather (d : T S4x512x8x160) (x : T S4x512x2048) : T S4x8x160x2048 :=
  Host.dotGeneral dot_S4x512x8x160_S4x512x2048_S4x8x160x2048_1_1_23_2_0_0 none d x

/-- An expert's input weights applied. -/
def lift (u : T S8x2048x4096) (y : T S4x8x160x2048) : T S4x8x160x4096 :=
  transpose S4x8x160x4096 [2, 0, 3, 1] (Host.dotGeneral dot_S8x2048x4096_S4x8x160x2048_S8x4096x4x160_1_3_2_02_0_1 none u y)
    transposes_S8x4096x4x160_S4x8x160x4096_2_0_3_1

/-- The gated activation. -/
def act (h k : T S4x8x160x4096) : T S4x8x160x4096 :=
  mulf (mulf h (Host.divf (broadcastInDim S4x8x160x4096 ![] bcast_S_S4x8x160x4096 (constant S_ .f32 0x3F800000#32))
    (addf (broadcastInDim S4x8x160x4096 ![] bcast_S_S4x8x160x4096 (constant S_ .f32 0x3F800000#32)) (Host.exp (Host.negf h))))) k

/-- An expert's output weights applied. -/
def lower (o : T S8x4096x2048) (a : T S4x8x160x4096) : T S4x8x160x2048 :=
  transpose S4x8x160x2048 [2, 0, 3, 1] (Host.dotGeneral dot_S8x4096x2048_S4x8x160x4096_S8x2048x4x160_1_3_2_02_0_1 none o a)
    transposes_S8x2048x4x160_S4x8x160x2048_2_0_3_1

/-- The experts' results, weighted and added up. -/
def collect (k : T S4x512x8x160) (y : T S4x8x160x2048) : T S4x512x2048 :=
  Host.dotGeneral dot_S4x512x8x160_S4x8x160x2048_S4x512x2048_32_21_1_3_0_0 none k y

/-- The probabilities of a grouped batch. -/
def probOf (X : T S4x512x2048) (w : T S2048x8) : T S4x512x8 := probs (exps (logits X w))

/-- The places of the choices the probabilities make. -/
def placeOf (p : T S4x512x8) : T S4x2x512x8x160 := placed (mask (topIdx p)) (queue (counts (mask (topIdx p))))

/-- The experts' results on the tokens they read. -/
def expertOf (u v : T S8x2048x4096) (o : T S8x4096x2048) (y : T S4x8x160x2048) : T S4x8x160x2048 := lower o (act (lift u y) (lift v y))

/-- The whole layer on a grouped batch. -/
def layerOf (X : T S4x512x2048) (w : T S2048x8) (u v : T S8x2048x4096) (o : T S8x4096x2048) : T S4x512x2048 :=
  collect (combine (topVal (probOf X w)) (placeOf (probOf X w))) (expertOf u v o (gather (dispatch (placeOf (probOf X w))) X))

variable (m : (ℓ : Loc nD τ sig) → Buf (Elt Ideal) ℓ) (c : Dev nD)

set_option maxRecDepth 8192 in
theorem res_eq : (Value.res_main_v45 m c : T S1x2048x2048)
    = shapeCast _ (layerOf (groups (m ((c.tc : Thread nD τ).loc main_arg0))) (m ((c.tc : Thread nD τ).loc main_arg1))
        (m ((c.tc : Thread nD τ).loc main_arg2)) (m ((c.tc : Thread nD τ).loc main_arg3)) (m ((c.tc : Thread nD τ).loc main_arg4)))
        shapeCasts_S4x512x2048_S1x2048x2048 := rfl

end Cert.ReferenceIdeal.Hand
-- ==== Proof.RefCount.lean ====
/- The reference's running counts, read at an index on the extended reals. -/
module

public import proofs.«01_k».proof.Proof.RefTerm

@[expose] public section

namespace Cert.ReferenceIdeal.Hand

open Cert.ReferenceIdeal Cert.ReferenceIdeal.Gen Idealize.ShloMosaic Cert.Moe
open scoped BigOperators

/-- The window the running sum runs over. -/
abbrev Win : Shape := ⟨3, ![1, 1024, 1]⟩

theorem foldl_eq_sum {n : ℕ} (f : Fin n → EReal) : (List.finRange n).foldl (fun r k => r + f k) 0 = ∑ k, f k := by
  rw [← List.foldl_map (f := f) (g := fun r y => r + y), ← List.sum_eq_foldl, ← List.ofFn_eq_map, List.sum_ofFn]

theorem sum_win (f : Win.Idx → EReal) : ∑ i, f i = ∑ k : Fin 1024, f (ix3 0 k 0) := by
  refine (Fintype.sum_bijective (fun k : Fin 1024 => (ix3 0 k 0 : Win.Idx)) ⟨fun a b h => congrFun h 1, fun i => ⟨i 1, ?_⟩⟩ _ _ fun k => rfl).symm
  funext a
  fin_cases a
  · exact (Subsingleton.elim (α := Fin 1) _ _)
  · rfl
  · exact (Subsingleton.elim (α := Fin 1) _ _)

theorem sum_numel (G : Fin Win.numel → EReal) (f : Fin 1024 → EReal) (h : ∀ (w : Fin 1024) (i : Fin Win.numel), Win.rowMajor.symm i = ix3 0 w 0 → G i = f w) :
    ∑ i, G i = ∑ w, f w := by
  rw [← Equiv.sum_comp Win.rowMajor G, sum_win]
  exact Finset.sum_congr rfl fun w _ => h w _ (Equiv.symm_apply_apply _ _)

/-- The window that ends at row `r`, read from its start, holds the rows up to `r`. -/
theorem sum_shift (f : Fin 1024 → EReal) (r : Fin 1024) :
    (∑ w : Fin 1024, if h : 1023 ≤ r.val + w.val then f ⟨r.val + w.val - 1023, by omega⟩ else 0) = ∑ k : Fin 1024, if k ≤ r then f k else 0 := by
  refine Fintype.sum_equiv (Equiv.addRight (r + 1)) _ _ fun w => ?_
  have hr := r.isLt
  have hw := w.isLt
  have hv : (Equiv.addRight (r + 1) w).val = (w.val + (r.val + 1)) % 1024 := by
    show (w + (r + 1)).val = _
    rw [Fin.val_add, Fin.val_add]
    simp
  by_cases h : 1023 ≤ r.val + w.val
  · have he : Equiv.addRight (r + 1) w = ⟨r.val + w.val - 1023, by omega⟩ := Fin.ext (by rw [hv]; show _ = r.val + w.val - 1023; omega)
    rw [dif_pos h, he, if_pos (Fin.le_def.2 (by show r.val + w.val - 1023 ≤ r.val; omega))]
  · rw [dif_neg h, if_neg fun hle => h (by have := Fin.le_def.1 hle; omega)]

theorem counts_apply (k : T S4x1024x8) (g : Fin 4) (r : Fin 1024) (e : Fin 8) :
    counts k (ix3 g r e) = ∑ r' : Fin 1024, if r' ≤ r then k (ix3 g r' e) else 0 := by
  have hz : (broadcastInDim S_ ![] bcast_S_S_ (constant (F := Ideal) S_ .f32 0x00000000#32) : T S_) (Shape.Idx.first h_S_) = (0 : EReal) :=
    Ideal.ofBits_zero_f32
  unfold counts Host.reduceWindowAdd
  rw [hz]
  show Ideal.hostReduceWindowAdd ![1, 1024, 1] ![1, 1, 1] ![0, 1023, 0] ![0, 0, 0]
    reduceWindows_S4x1024x8_S4x1024x8_w1s1p0_0_w1024s1p1023_0_w1s1p0_0 k 0 (ix3 g r e) = _
  unfold Ideal.hostReduceWindowAdd Host.reduceWindow
  dsimp only
  refine (foldl_eq_sum _).trans ?_
  refine Eq.trans (sum_numel _ _ fun w i hi => ?_) (sum_shift (fun r' => k (ix3 g r' e)) r)
  have h0 : (Win.rowMajor.symm i 0).val = 0 := congrArg (fun q : Win.Idx => (q 0).val) hi
  have h1 : (Win.rowMajor.symm i 1).val = w.val := congrArg (fun q : Win.Idx => (q 1).val) hi
  have h2 : (Win.rowMajor.symm i 2).val = 0 := congrArg (fun q : Win.Idx => (q 2).val) hi
  by_cases h : 1023 ≤ r.val + w.val
  · rw [dif_pos h]
    refine (dif_pos fun a => ?_).trans (congrArg k (funext fun a => Fin.ext ?_))
    · fin_cases a
      · show 0 ≤ g.val * 1 + (Win.rowMajor.symm i 0).val ∧ g.val * 1 + (Win.rowMajor.symm i 0).val - 0 < 4
        omega
      · show 1023 ≤ r.val * 1 + (Win.rowMajor.symm i 1).val ∧ r.val * 1 + (Win.rowMajor.symm i 1).val - 1023 < 1024
        omega
      · show 0 ≤ e.val * 1 + (Win.rowMajor.symm i 2).val ∧ e.val * 1 + (Win.rowMajor.symm i 2).val - 0 < 8
        omega
    · fin_cases a
      · show g.val * 1 + (Win.rowMajor.symm i 0).val - 0 = g.val
        omega
      · show r.val * 1 + (Win.rowMajor.symm i 1).val - 1023 = r.val + w.val - 1023
        omega
      · show e.val * 1 + (Win.rowMajor.symm i 2).val - 0 = e.val
        omega
  · rw [dif_neg h]
    refine dif_neg fun hin => ?_
    have h3 : 1023 ≤ r.val * 1 + (Win.rowMajor.symm i 1).val := (hin 1).1
    omega

end Cert.ReferenceIdeal.Hand
-- ==== Proof.RefPlace.lean ====
/- Where the reference puts each choice, read at an index on the extended reals. -/
module

public import proofs.«01_k».proof.Proof.RefCount
public import proofs.«01_k».proof.Proof.RouterValue

@[expose] public section

namespace Cert.ReferenceIdeal.Hand

open Cert.ReferenceIdeal Cert.ReferenceIdeal.Gen Idealize.ShloMosaic Cert.Moe
open scoped BigOperators

theorem dispatch_apply (p : T S4x2x512x8x160) (g : Fin 4) (s : Fin 512) (e : Fin 8) (c : Fin 160) :
    dispatch p (ix4 g s e c) = ∑ k : Fin 2, p (ix5 g k s e c) := by
  pointwise [dispatch]

theorem combine_apply (v : T S4x512x2) (p : T S4x2x512x8x160) (g : Fin 4) (s : Fin 512) (e : Fin 8) (c : Fin 160) :
    combine v p (ix4 g s e c) = ∑ k : Fin 2, v (ix3 g s k) * p (ix5 g k s e c) := by
  pointwise [combine]

theorem mask_apply (i : IVec S4x512x2 32) (q : Fin 4 → Fin 2 → Fin 512 → Fin 8) (hq : ∀ g s k, i (ix3 g s k) = BitVec.ofNat 32 (q g k s).val)
    (g : Fin 4) (r : Fin 1024) (e : Fin 8) :
    mask i (ix3 g r e) = if q g ⟨r.val / 512, by omega⟩ ⟨r.val % 512, by omega⟩ = e then 1 else 0 := by
  pointwise [mask]
  rw [hq, Cert.KernelIdeal.Hand.cmpi_eq_nat]
  exact mask_host _

theorem queue_apply (n : T S4x1024x8) (g : Fin 4) (r : Fin 1024) (e : Fin 8) : queue n (ix3 g r e) = n (ix3 g r e) - 1 := by
  pointwise [queue]

/-- How many choices of expert `e` come no later than a given one: the first choices up to it, or every first choice and the second
    choices up to it. -/
def held (q : Fin 2 → Fin 512 → Fin 8) (j : Fin 2) (s : Fin 512) (e : Fin 8) : ℕ :=
  if j = 0 then cnt (q 0) s e else tot (q 0) e + cnt (q 1) s e

theorem held_le (q : Fin 2 → Fin 512 → Fin 8) (j : Fin 2) (s : Fin 512) (e : Fin 8) : held q j s e ≤ 1024 := by
  have h1 := cnt_le (q 0) s e
  have h2 := cnt_le (q 1) s e
  have h3 := tot_le (q 0) e
  unfold held
  split <;> omega

theorem held_pos (q : Fin 2 → Fin 512 → Fin 8) (j : Fin 2) (s : Fin 512) : 1 ≤ held q j s (q j s) := by
  have h := cnt_pos (q j) s
  unfold held
  fin_cases j
  · exact h
  · exact le_add_left h

/-- The rows are the first choices and then the second. -/
theorem sum_halves (f : Fin 1024 → EReal) :
    ∑ r, f r = (∑ s : Fin 512, f ⟨s.val, by omega⟩) + ∑ s : Fin 512, f ⟨512 + s.val, by omega⟩ :=
  Fin.sum_univ_add (a := 512) (b := 512) f

theorem sum_cnt (a : Fin 512 → Fin 8) (s : Fin 512) (e : Fin 8) :
    (∑ k : Fin 512, if k ≤ s then (if a k = e then (1 : EReal) else 0) else 0) = (cnt a s e : EReal) := by
  rw [← sum_mask]
  refine Finset.sum_congr rfl fun k _ => ?_
  by_cases h : k ≤ s <;> by_cases h' : a k = e <;> simp [h, h', Ne.symm, eq_comm]

theorem sum_tot (a : Fin 512 → Fin 8) (e : Fin 8) : (∑ k : Fin 512, if a k = e then (1 : EReal) else 0) = (tot a e : EReal) := by
  unfold tot
  rw [← Finset.sum_boole]

variable {i : IVec S4x512x2 32} {q : Fin 4 → Fin 2 → Fin 512 → Fin 8}

theorem mask_row (hq : ∀ g s k, i (ix3 g s k) = BitVec.ofNat 32 (q g k s).val) (g : Fin 4) (j : Fin 2) (s : Fin 512) (e : Fin 8)
    (r : Fin 1024) (hr : r.val = j.val * 512 + s.val) : mask i (ix3 g r e) = if q g j s = e then 1 else 0 := by
  have h1 : (⟨r.val / 512, by omega⟩ : Fin 2) = j := Fin.ext (by show r.val / 512 = j.val; omega)
  have h2 : (⟨r.val % 512, by omega⟩ : Fin 512) = s := Fin.ext (by show r.val % 512 = s.val; omega)
  rw [mask_apply i q hq, h1, h2]

theorem counts_row (hq : ∀ g s k, i (ix3 g s k) = BitVec.ofNat 32 (q g k s).val) (g : Fin 4) (j : Fin 2) (s : Fin 512) (e : Fin 8) :
    counts (mask i) (ix3 g ⟨j.val * 512 + s.val, by omega⟩ e) = (held (q g) j s e : EReal) := by
  have hs := s.isLt
  rw [counts_apply, sum_halves]
  have hA : ∀ k : Fin 512, mask i (ix3 g ⟨k.val, by omega⟩ e) = if q g 0 k = e then 1 else 0 := fun k => mask_row hq g 0 k e _ (by show k.val = 0 * 512 + k.val; omega)
  have hB : ∀ k : Fin 512, mask i (ix3 g ⟨512 + k.val, by omega⟩ e) = if q g 1 k = e then 1 else 0 := fun k => mask_row hq g 1 k e _ (by show 512 + k.val = 1 * 512 + k.val; omega)
  simp only [hA, hB, Fin.mk_le_mk]
  unfold held
  fin_cases j
  · have h1 : ∀ k : Fin 512, k.val ≤ 0 * 512 + s.val ↔ k ≤ s := fun k => by rw [Fin.le_def]; omega
    have h2 : ∀ k : Fin 512, ¬ 512 + k.val ≤ 0 * 512 + s.val := fun k => by omega
    simp only [h1, h2, if_false, Finset.sum_const_zero, add_zero]
    exact sum_cnt _ _ _
  · have h1 : ∀ k : Fin 512, k.val ≤ 1 * 512 + s.val := fun k => by omega
    have h2 : ∀ k : Fin 512, 512 + k.val ≤ 1 * 512 + s.val ↔ k ≤ s := fun k => by rw [Fin.le_def]; omega
    simp only [h1, h2, if_true]
    rw [sum_cnt, sum_tot]
    exact (Nat.cast_add _ _).symm

theorem ofBits_160 : Ideal.ofBits .f32 1126170624#32 = (160 : ℝ) := by
  simp [Ideal.ofBits, Ideal.ieee, -EReal.coe_mul]; norm_num

theorem cmpi_eq_place (n : ℕ) (hn : n ≤ 1024) (c : Fin 160) :
    IntOp.cmpi .eq (BitVec.ofNat 32 n) (BitVec.ofNat 32 c.val) = BitVec.ofBool (decide (n = c.val)) := by
  have hc := c.isLt
  show BitVec.ofBool (decide (BitVec.ofNat 32 n = BitVec.ofNat 32 c.val)) = _
  refine congrArg _ (decide_eq_decide.2 ⟨fun h => ?_, fun h => h ▸ rfl⟩)
  have h' := congrArg BitVec.toNat h
  rw [BitVec.toNat_ofNat, BitVec.toNat_ofNat, Nat.mod_eq_of_lt (by omega), Nat.mod_eq_of_lt (by omega)] at h'
  exact h'

theorem placed_apply (hq : ∀ g s k, i (ix3 g s k) = BitVec.ofNat 32 (q g k s).val) (g : Fin 4) (j : Fin 2) (s : Fin 512) (e : Fin 8) (c : Fin 160) :
    placed (mask i) (queue (counts (mask i))) (ix5 g j s e c) = if q g j s = e ∧ held (q g) j s e - 1 = c.val then 1 else 0 := by
  have hc := c.isLt
  have h1024 := held_le (q g) j s e
  pointwise [placed]
  rw [queue_apply, counts_row hq, mask_row hq g j s e _ rfl]
  by_cases h : q g j s = e
  · have hpos : 1 ≤ held (q g) j s e := h ▸ held_pos (q g) j s
    have hf : FloatOps.fptosi (F := Ideal) (φ := .f32) 32 ((held (q g) j s e : EReal) - 1) = BitVec.ofNat 32 (held (q g) j s e - 1) := fptosi_count _ hpos (by omega)
    have hlt : ((held (q g) j s e : EReal) - 1 < Ideal.ofBits .f32 1126170624#32) ↔ held (q g) j s e - 1 < 160 := by
      rw [sub_one_eq _ hpos, ofBits_160, EReal.coe_lt_coe_iff]
      exact Nat.cast_lt (n := 160)
    rw [hf, cmpi_eq_place _ (by omega), decide_eq_decide.2 hlt, if_pos h, mul_one]
    refine (congrArg₂ (· * ·) (mask_host _) (mask_host _)).trans ?_
    by_cases h2 : held (q g) j s e - 1 = c.val
    · have h3 : held (q g) j s e - 1 < 160 := by omega
      rw [if_pos h2, if_pos h3, if_pos ⟨h, h2⟩, mul_one]
    · rw [if_neg h2, zero_mul, if_neg fun h4 => h2 h4.2]
  · rw [if_neg h, if_neg fun h4 => h h4.1, mul_zero, mul_zero]

end Cert.ReferenceIdeal.Hand
-- ==== Proof.RefTop.lean ====
/- The reference's two choices of each token. -/
module

public import proofs.«01_k».proof.Proof.RefTerm

@[expose] public section

namespace Cert.ReferenceIdeal.Hand

open Cert.ReferenceIdeal Cert.ReferenceIdeal.Gen Idealize.ShloMosaic Cert.Moe

/-- The experts in the order the reference ranks them for one token. -/
noncomputable def ranked (P : Fin 8 → EReal) : Fin 8 → Fin 8 := sortedFrom fun a b => decide (P b < P a)

theorem along_last (J : S4x512x8.Idx) (e : Fin 8) : J.along 2 e = ix3 (J 0) (J 1) e := by
  funext a
  fin_cases a <;> rfl

theorem gt_eq (x y : EReal) : (FloatOps.cmpfTotal (F := Ideal) (φ := .f32) .gt x y == 1#1) = decide (y < x) := by
  show (Ideal.cmp .ogt x y == 1#1) = _
  unfold Ideal.cmp
  by_cases h : y < x <;> simp [h]

theorem sort_apply (p : T S4x512x8) (i : IVec S4x512x8 32) (g : Fin 4) (s : Fin 512) (e : Fin 8) :
    (Host.sort2 S4x512x8 2 (fun l r => FloatOps.cmpfTotal (F := Ideal) (φ := .f32) .gt l.1 r.1) p i).1 (ix3 g s e)
        = p (ix3 g s (ranked (fun e => p (ix3 g s e)) e))
      ∧ (Host.sort2 S4x512x8 2 (fun l r => FloatOps.cmpfTotal (F := Ideal) (φ := .f32) .gt l.1 r.1) p i).2 (ix3 g s e)
        = i (ix3 g s (ranked (fun e => p (ix3 g s e)) e)) := by
  have hd : 2 < S4x512x8.rank := by decide
  unfold Host.sort2
  rw [dif_pos hd]
  have h : ∀ e' : Fin 8, (ix3 g s e : S4x512x8.Idx).along ⟨2, hd⟩ e' = ix3 g s e' := along_last _
  have hb : (fun k k' : Fin 8 => FloatOps.cmpfTotal (F := Ideal) (φ := .f32) .gt (p ((ix3 g s e : S4x512x8.Idx).along ⟨2, hd⟩ k))
      (p ((ix3 g s e : S4x512x8.Idx).along ⟨2, hd⟩ k')) == 1#1) = fun a b => decide (p (ix3 g s b) < p (ix3 g s a)) := by
    funext k k'
    rw [h, h, gt_eq]
  have hs : sortedFrom (fun k k' : Fin 8 => FloatOps.cmpfTotal (F := Ideal) (φ := .f32) .gt (p ((ix3 g s e : S4x512x8.Idx).along ⟨2, hd⟩ k))
      (p ((ix3 g s e : S4x512x8.Idx).along ⟨2, hd⟩ k')) == 1#1) e = ranked (fun e => p (ix3 g s e)) e := by
    rw [hb]
    rfl
  exact ⟨congrArg p ((congrArg _ hs).trans (h _)), congrArg i ((congrArg _ hs).trans (h _))⟩

theorem slice_apply {α : Type} (y : S4x512x8.Idx → α) (h : S4x512x8.Slices (fun _ => 0) S4x512x2) (g : Fin 4) (s : Fin 512) (k : Fin 2) :
    extractStridedSlice S4x512x2 (fun _ => 0) y h (ix3 g s k) = y (ix3 g s ⟨k.val, by omega⟩) := by
  unfold extractStridedSlice
  refine congrArg y (funext fun a => Fin.ext ?_)
  fin_cases a <;> exact Nat.zero_add _

/-- The words of the experts' numbers. -/
def numbers : IVec S4x512x8 32 := fun i => if hd : 2 < S4x512x8.rank then iotaInDim S4x512x8 32 ⟨2, hd⟩ i else 0#32

theorem numbers_apply (g : Fin 4) (s : Fin 512) (e : Fin 8) : numbers (ix3 g s e) = BitVec.ofNat 32 e.val := by
  unfold numbers
  rw [dif_pos (by decide)]
  rfl

theorem topVal_apply (p : T S4x512x8) (g : Fin 4) (s : Fin 512) (k : Fin 2) :
    topVal p (ix3 g s k) = p (ix3 g s (ranked (fun e => p (ix3 g s e)) ⟨k.val, by omega⟩)) :=
  (slice_apply _ sliceFits_S4x512x8_S4x512x2 g s k).trans (sort_apply p numbers g s _).1

theorem topIdx_apply (p : T S4x512x8) (g : Fin 4) (s : Fin 512) (k : Fin 2) :
    topIdx p (ix3 g s k) = BitVec.ofNat 32 (ranked (fun e => p (ix3 g s e)) ⟨k.val, by omega⟩).val :=
  (slice_apply _ sliceFits_S4x512x8_S4x512x2 g s k).trans ((sort_apply p numbers g s _).2.trans (numbers_apply g s _))

/-- Where every probability exceeds `⊥` the first two ranked are the two picks. -/
theorem ranked_picks {P : Fin 8 → EReal} (hP : ∀ e, ⊥ < P e) {a b : Fin 8} (h : Picks P a b) : ranked P 0 = a ∧ ranked P 1 = b := by
  rcases picks_sortedFrom P with hp | ⟨e, he⟩
  · exact Picks.unique hp h
  · exact absurd he (hP e).ne'

end Cert.ReferenceIdeal.Hand
-- ==== Proof.RefProb.lean ====
/- The reference's probabilities, read at an index on the extended reals. -/
module

public import proofs.«01_k».proof.Proof.RefTerm
public import proofs.«01_k».proof.Proof.RouterValue

@[expose] public section

namespace Cert.ReferenceIdeal.Hand

open Cert.ReferenceIdeal Cert.ReferenceIdeal.Gen Idealize.ShloMosaic Cert.Moe
open scoped BigOperators

theorem logits_apply (x : T S4x512x2048) (w : T S2048x8) (g : Fin 4) (s : Fin 512) (e : Fin 8) :
    logits x w (ix3 g s e) = logit (fun d => x (ix3 g s d)) (fun d e => w (ix2 d e)) e := by
  pointwise [logits]
  rfl

theorem exps_apply (l : T S4x512x8) (g : Fin 4) (s : Fin 512) (e : Fin 8) :
    exps l (ix3 g s e) = Ideal.exp (l (ix3 g s e) - rowMax fun k => l (ix3 g s k)) := by
  pointwise [exps]
  simp only [Cert.KernelIdeal.Hand.ofBits_bot, bot_le, max_eq_right]
  rfl

theorem probs_apply (z : T S4x512x8) (g : Fin 4) (s : Fin 512) (e : Fin 8) :
    probs z (ix3 g s e) = Ideal.div (z (ix3 g s e)) (∑ k, z (ix3 g s k)) := by
  pointwise [probs]

theorem probOf_apply (x : T S4x512x2048) (w : T S2048x8) (g : Fin 4) (s : Fin 512) (e : Fin 8) :
    probOf x w (ix3 g s e) = prob (fun g s d => x (ix3 g s d)) (fun d e => w (ix2 d e)) g s e := by
  simp only [probOf, probs_apply, exps_apply, logits_apply]
  rfl

end Cert.ReferenceIdeal.Hand
-- ==== Proof.RefFfn.lean ====
/- The reference's experts, read at an index on the extended reals. -/
module

public import proofs.«01_k».proof.Proof.RefTerm

@[expose] public section

namespace Cert.ReferenceIdeal.Hand

open Cert.ReferenceIdeal Cert.ReferenceIdeal.Gen Idealize.ShloMosaic Cert.Moe
open scoped BigOperators

theorem gather_apply (d : T S4x512x8x160) (x : T S4x512x2048) (g : Fin 4) (e : Fin 8) (c : Fin 160) (k : Fin 2048) :
    gather d x (ix4 g e c k) = ∑ s, d (ix4 g s e c) * x (ix3 g s k) := by
  pointwise [gather]

theorem lift_apply (u : T S8x2048x4096) (y : T S4x8x160x2048) (g : Fin 4) (e : Fin 8) (c : Fin 160) (f : Fin 4096) :
    lift u y (ix4 g e c f) = ∑ d, y (ix4 g e c d) * u (ix3 e d f) := by
  pointwise [lift]
  exact Finset.sum_congr rfl fun d _ => mul_comm _ _

theorem act_apply (h k : T S4x8x160x4096) (g : Fin 4) (e : Fin 8) (c : Fin 160) (f : Fin 4096) :
    act h k (ix4 g e c f) = h (ix4 g e c f) * Ideal.logistic (h (ix4 g e c f)) * k (ix4 g e c f) := by
  pointwise [act]
  rfl

theorem lower_apply (o : T S8x4096x2048) (a : T S4x8x160x4096) (g : Fin 4) (e : Fin 8) (c : Fin 160) (d : Fin 2048) :
    lower o a (ix4 g e c d) = ∑ f, a (ix4 g e c f) * o (ix3 e f d) := by
  pointwise [lower]
  exact Finset.sum_congr rfl fun d _ => mul_comm _ _

theorem collect_apply (k : T S4x512x8x160) (y : T S4x8x160x2048) (g : Fin 4) (s : Fin 512) (d : Fin 2048) :
    collect k y (ix3 g s d) = ∑ e, ∑ c, k (ix4 g s e c) * y (ix4 g e c d) := by
  pointwise [collect]
  exact Finset.sum_comm

theorem expertOf_apply (u v : T S8x2048x4096) (o : T S8x4096x2048) (y : T S4x8x160x2048) (g : Fin 4) (e : Fin 8) (c : Fin 160) (d : Fin 2048) :
    expertOf u v o y (ix4 g e c d)
      = expert (fun e d f => u (ix3 e d f)) (fun e d f => v (ix3 e d f)) (fun e f d => o (ix3 e f d)) (fun d => y (ix4 g e c d)) e d := by
  simp only [expertOf, lower_apply, act_apply, lift_apply]
  rfl

end Cert.ReferenceIdeal.Hand
-- ==== Proof.RefValue.lean ====
/- The reference's result, read at an index: the layer of its five arguments, where no probability is `⊥`. -/
module

public import proofs.«01_k».proof.Proof.RefPlace
public import proofs.«01_k».proof.Proof.RefTop
public import proofs.«01_k».proof.Proof.RefProb
public import proofs.«01_k».proof.Proof.RefFfn

@[expose] public section

namespace Cert.ReferenceIdeal.Hand

open Cert.ReferenceIdeal Cert.ReferenceIdeal.Gen Idealize.ShloMosaic Idealize.ShloMosaic.TcCoe Cert.Moe
open scoped BigOperators

section Route
variable {p : T S4x512x8} {P : Fin 4 → Fin 512 → Fin 8 → EReal} (hp : ∀ g s e, p (ix3 g s e) = P g s e) (hb : ∀ g s e, ⊥ < P g s e)
include hp hb

theorem ranked_fst (g : Fin 4) (s : Fin 512) : ranked (fun e => p (ix3 g s e)) 0 = fst (P g) s := by
  rw [show (fun e => p (ix3 g s e)) = P g s from funext (hp g s)]
  exact (ranked_picks (hb g s) (picks (P g) s)).1

theorem ranked_snd (g : Fin 4) (s : Fin 512) : ranked (fun e => p (ix3 g s e)) 1 = snd (P g) s := by
  rw [show (fun e => p (ix3 g s e)) = P g s from funext (hp g s)]
  exact (ranked_picks (hb g s) (picks (P g) s)).2

theorem topIdx_eq (g : Fin 4) (s : Fin 512) (k : Fin 2) :
    topIdx p (ix3 g s k) = BitVec.ofNat 32 ((![fst (P g), snd (P g)] : Fin 2 → Fin 512 → Fin 8) k s).val := by
  rw [topIdx_apply]
  fin_cases k
  · exact congrArg (fun e : Fin 8 => BitVec.ofNat 32 e.val) (ranked_fst hp hb g s)
  · exact congrArg (fun e : Fin 8 => BitVec.ofNat 32 e.val) (ranked_snd hp hb g s)

theorem place_first (g : Fin 4) (s : Fin 512) (e : Fin 8) (c : Fin 160) :
    placeOf p (ix5 g 0 s e c) = if fst (P g) s = e ∧ pos0 (fst (P g)) s = c.val then 1 else 0 := by
  refine (placed_apply (topIdx_eq hp hb) g 0 s e c).trans (if_congr ?_ rfl rfl)
  refine and_congr_right fun h => ?_
  subst h
  exact Iff.rfl

theorem place_second (g : Fin 4) (s : Fin 512) (e : Fin 8) (c : Fin 160) :
    placeOf p (ix5 g 1 s e c) = if snd (P g) s = e ∧ pos1 (fst (P g)) (snd (P g)) s = c.val then 1 else 0 := by
  refine (placed_apply (topIdx_eq hp hb) g 1 s e c).trans (if_congr ?_ rfl rfl)
  refine and_congr_right fun h => ?_
  subst h
  exact Iff.rfl

theorem dispatch_eq (g : Fin 4) (s : Fin 512) (e : Fin 8) (c : Fin 160) :
    dispatch (placeOf p) (ix4 g s e c) = takes (fst (P g)) (snd (P g)) s e c := by
  rw [dispatch_apply, Fin.sum_univ_two, place_first hp hb, place_second hp hb]
  rfl

theorem combine_eq (g : Fin 4) (s : Fin 512) (e : Fin 8) (c : Fin 160) :
    combine (topVal p) (placeOf p) (ix4 g s e c)
      = gate (fun s => P g s (fst (P g) s)) (fun s => strike (P g s) (fst (P g) s) (snd (P g) s)) (fst (P g)) (snd (P g)) s e c := by
  have hv0 : topVal p (ix3 g s 0) = P g s (fst (P g) s) :=
    (topVal_apply p g s 0).trans ((congrArg (fun e => p (ix3 g s e)) (ranked_fst hp hb g s)).trans (hp g s _))
  have hv1 : topVal p (ix3 g s 1) = strike (P g s) (fst (P g) s) (snd (P g) s) := by
    refine (topVal_apply p g s 1).trans ((congrArg (fun e => p (ix3 g s e)) (ranked_snd hp hb g s)).trans ((hp g s _).trans ?_))
    exact (if_neg (Picks.ne (picks (P g) s) (hb g s))).symm
  rw [combine_apply, Fin.sum_univ_two, place_first hp hb, place_second hp hb, hv0, hv1, mul_ite, mul_one, mul_zero, mul_ite, mul_one, mul_zero]
  rfl

end Route

theorem layerOf_apply (x : T S4x512x2048) (w : T S2048x8) (u v : T S8x2048x4096) (o : T S8x4096x2048)
    (hb : ∀ g s e, ⊥ < prob (fun g s d => x (ix3 g s d)) (fun d e => w (ix2 d e)) g s e) (g : Fin 4) (s : Fin 512) (d : Fin 2048) :
    layerOf x w u v o (ix3 g s d)
      = layer (fun g s d => x (ix3 g s d)) (fun d e => w (ix2 d e)) (fun e d f => u (ix3 e d f)) (fun e d f => v (ix3 e d f)) (fun e f d => o (ix3 e f d)) g s d := by
  have hp := probOf_apply x w
  unfold layerOf layer weight gathered
  rw [collect_apply]
  simp only [combine_eq hp hb, expertOf_apply, gather_apply, dispatch_eq hp hb]

theorem groups_apply (x : T S1x2048x2048) (g : Fin 4) (s : Fin 512) (d : Fin 2048) :
    groups x (ix3 g s d) = x (ix3 0 ⟨g.val * 512 + s.val, by omega⟩ d) := by
  pointwise [groups]

theorem ungroup_apply (x : T S4x512x2048) (h : S4x512x2048.ShapeCasts S1x2048x2048) (z : Fin 1) (n : Fin 2048) (d : Fin 2048) :
    shapeCast S1x2048x2048 x h (ix3 z n d) = x (ix3 ⟨n.val / 512, by omega⟩ ⟨n.val % 512, by omega⟩ d) := by
  pointwise

/-- The reference's result over its arguments. -/
theorem whole_apply (x : T S1x2048x2048) (w : T S2048x8) (u v : T S8x2048x4096) (o : T S8x4096x2048)
    (hb : ∀ g s e, ⊥ < prob (fun g s d => x (ix3 0 ⟨g.val * 512 + s.val, by omega⟩ d)) (fun d e => w (ix2 d e)) g s e) (z : Fin 1) (n d : Fin 2048) :
    shapeCast S1x2048x2048 (layerOf (groups x) w u v o) shapeCasts_S4x512x2048_S1x2048x2048 (ix3 z n d)
      = layer (fun g s d => x (ix3 0 ⟨g.val * 512 + s.val, by omega⟩ d)) (fun d e => w (ix2 d e)) (fun e d f => u (ix3 e d f)) (fun e d f => v (ix3 e d f))
          (fun e f d => o (ix3 e f d)) ⟨n.val / 512, by omega⟩ ⟨n.val % 512, by omega⟩ d := by
  have hx : (fun (g : Fin 4) (s : Fin 512) (d : Fin 2048) => groups x (ix3 g s d)) = fun g s d => x (ix3 0 ⟨g.val * 512 + s.val, by omega⟩ d) :=
    funext fun g => funext fun s => funext fun d => groups_apply x g s d
  rw [ungroup_apply, layerOf_apply _ _ _ _ _ (by rw [hx]; exact hb), hx]

end Cert.ReferenceIdeal.Hand
-- ==== Proof.Finite.lean ====
/- What the precondition says: no probability is `⊥`. -/
module

public import proofs.«01_k».proof.Pre_row_max_finite
public import proofs.«01_k».proof.Proof.RouterValue
public import proofs.«01_k».proof.Proof.Layer
public import Idealize.ShloMosaic.Lib.Pipeline.ValueKit

@[expose] public section

namespace Cert.Pre_row_max_finite.Hand

open Cert.Pre_row_max_finite Idealize.ShloMosaic Cert.Moe

/-- The side conditions of the precondition's operations. -/
theorem facts : Facts where
  shapeCasts_S1x2048x2048_S4x512x2048 := by decide
  reducesTo_S4x512x8_S4x512_d2 := by decide
  h_S_ := by decide
  bcast_S_S4x512 := by decide
  dot_S4x512x2048_S2048x8_S4x512x8_2_0_01_1_n_n_wf := by decide

attribute [local instance] facts

theorem ofBits_top : Ideal.ofBits .f32 2139095040#32 = ⊤ := by simp [Ideal.ofBits, Ideal.ieee]

theorem fn_apply (x : FVec Ideal S1x2048x2048 .f32) (w : FVec Ideal S2048x8 .f32) (u v : FVec Ideal S8x2048x4096 .f32) (o : FVec Ideal S8x4096x2048 .f32)
    (g : Fin 4) (s : Fin 512) :
    fn x w u v o (ix2 g s)
      = BitVec.ofBool (decide (max (rowMax (logit (fun d => x (ix3 0 ⟨g.val * 512 + s.val, by omega⟩ d)) fun d e => w (ix2 d e)))
          (-rowMax (logit (fun d => x (ix3 0 ⟨g.val * 512 + s.val, by omega⟩ d)) fun d e => w (ix2 d e))) < ⊤)) := by
  pointwise [fn]
  simp only [Cert.KernelIdeal.Hand.ofBits_bot, ofBits_top]
  rfl

theorem of_bit {b : Prop} [Decidable b] (h : BitVec.ofBool (decide b) = 1#1) : b := by
  by_contra hb
  rw [decide_eq_false hb] at h
  exact absurd h (by decide)

/-- Under the precondition every routing probability exceeds `⊥`. -/
theorem prob_pos (x : FVec Ideal S1x2048x2048 .f32) (w : FVec Ideal S2048x8 .f32) (u v : FVec Ideal S8x2048x4096 .f32) (o : FVec Ideal S8x4096x2048 .f32)
    (h : fn x w u v o = fun _ => 1#1) (g : Fin 4) (s : Fin 512) (e : Fin 8) :
    ⊥ < prob (fun g s d => x (ix3 0 ⟨g.val * 512 + s.val, by omega⟩ d)) (fun d e => w (ix2 d e)) g s e := by
  have h1 := (fn_apply x w u v o g s).symm.trans (congrFun h (ix2 g s))
  have h2 := of_bit h1
  refine soft_pos _ (fun ht => ?_) (fun hb => ?_) e
  · rw [ht] at h2
    exact absurd h2 (by simp)
  · rw [hb] at h2
    exact absurd h2 (by simp)

end Cert.Pre_row_max_finite.Hand
-- ==== Proof.Same.lean ====
/- The kernel and the reference leave the same result. -/
module

public import proofs.«01_k».proof.Defs
public import proofs.«01_k».proof.Proof.KernelValue
public import proofs.«01_k».proof.Proof.RefValue
public import proofs.«01_k».proof.Proof.Finite

@[expose] public section

noncomputable section

namespace Cert.Proof

open Idealize.ShloMosaic Idealize.ShloMosaic.TcCoe Idealize.SL.Sem Cert.Moe

attribute [local instance] Cert.KernelIdeal.Gen.facts Cert.ReferenceIdeal.Gen.facts Cert.Pre_row_max_finite.Hand.facts

/-- Two results read alike at every index are one. -/
theorem result_ext {x y : FVec Ideal Cert.KernelIdeal.S1x2048x2048 .f32} (h : ∀ (z : Fin 1) (n d : Fin 2048), x (ix3 z n d) = y (ix3 z n d)) : x = y := by
  funext j
  idx_vars j
  exact h _ _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments, the largest logits finite, the reference's result is the kernel's. -/
theorem result_eq (c : Dev Cert.KernelIdeal.nD)
    (hpre : Cert.Pre_row_max_finite.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v45 m' c : FVec Ideal Cert.KernelIdeal.S1x2048x2048 .f32)
      = (Cert.KernelIdeal.Hand.W5 m c (Proc.devRef .tc Cert.KernelIdeal.main_v0) : FVec Ideal Cert.KernelIdeal.S1x2048x2048 .f32) := by
  refine result_ext fun z n d => ?_
  refine ((congrFun (Cert.ReferenceIdeal.Hand.res_eq m' c) (ix3 z n d)).trans ?_).trans (Cert.KernelIdeal.Hand.kernel_value m c z n d).symm
  rw [h0, h1, h2, h3, h4]
  exact Cert.ReferenceIdeal.Hand.whole_apply _ _ _ _ _ (Cert.Pre_row_max_finite.Hand.prob_pos _ _ _ _ _ hpre) z n d

/-- The kernel computes the reference's function. -/
theorem algebraic_holds : Cert.algebraic_KernelIdeal_ReferenceIdeal_pre_row_max_finite := by
  intro m g m' g' hpre hargs
  refine ⟨fun c => Cert.KernelIdeal.Hand.W5 m c (Proc.devRef .tc Cert.KernelIdeal.main_v0), ?_, ?_⟩
  · exact (θ_run _ _ _).mono (fun r h => h.1) (Cert.KernelIdeal.Hand.run (F := Ideal) m g)
  · refine (θ_run _ _ _).mono (fun r h c => ?_) (Cert.ReferenceIdeal.Value.run (F := Ideal) m' g')
    obtain ⟨h0, h1, h2, h3, h4⟩ := hargs c
    exact ⟨(h c).1.trans (result_eq m m' c (hpre c) h0 h1 h2 h3 h4), (h c).2⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Transport
public import proofs.«01_k».proof.Proof.Same
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_row_max_finite.Hand.facts,
    frame_kernel, frame_kernelIdeal, fun m g _ => frame_kernelIdeal m g trivial, frame_reference, fun m g _ => frame_reference m g trivial,
    trivial, algebraic_holds⟩

end Cert.Proof

end
